-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_four_apart [hPre_nearest_four_apart : Cert.Pre_nearest_four_apart.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_four_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_four_apart [hPre_nearest_four_apart : Cert.Pre_nearest_four_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_four_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_nearest_four_apart [hKernelIdeal : Cert.KernelIdeal.Facts] [hPre_nearest_four_apart : Cert.Pre_nearest_four_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_four_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_nearest_four_apart [hReferenceIdeal : Cert.ReferenceIdeal.Facts] [hPre_nearest_four_apart : Cert.Pre_nearest_four_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_four_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_nearest_four_apart [hKernelIdeal : Cert.KernelIdeal.Facts] [hReferenceIdeal : Cert.ReferenceIdeal.Facts] [hPre_nearest_four_apart : Cert.Pre_nearest_four_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_four_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_nearest_four_apart : Cert.Pre_nearest_four_apart.Facts),
    quiescent_Kernel (hKernel := hKernel)
    ∧ quiescent_KernelIdeal (hKernelIdeal := hKernelIdeal)
    ∧ quiescent_KernelIdeal_pre_nearest_four_apart (hKernelIdeal := hKernelIdeal) (hPre_nearest_four_apart := hPre_nearest_four_apart)
    ∧ quiescent_ReferenceIdeal (hReferenceIdeal := hReferenceIdeal)
    ∧ quiescent_ReferenceIdeal_pre_nearest_four_apart (hReferenceIdeal := hReferenceIdeal) (hPre_nearest_four_apart := hPre_nearest_four_apart)
    ∧ preserves_Kernel_KernelIdeal
    ∧ algebraic_KernelIdeal_ReferenceIdeal_pre_nearest_four_apart (hKernelIdeal := hKernelIdeal) (hReferenceIdeal := hReferenceIdeal) (hPre_nearest_four_apart := hPre_nearest_four_apart)
-- ==== Pre_nearest_four_apart.lean ====
abbrev S2x8192x3 : Shape := ⟨3, ![2, 8192, 3]⟩
abbrev S2x2048x3 : Shape := ⟨3, ![2, 2048, 3]⟩
abbrev S2x64x8192 : Shape := ⟨3, ![2, 64, 8192]⟩
abbrev S2x128x2048 : Shape := ⟨3, ![2, 128, 2048]⟩
abbrev S128x192 : Shape := ⟨2, ![128, 192]⟩
abbrev S128 : Shape := ⟨1, ![128]⟩
abbrev S5x128 : Shape := ⟨2, ![5, 128]⟩
abbrev S5 : Shape := ⟨1, ![5]⟩
abbrev S128x5 : Shape := ⟨2, ![128, 5]⟩
abbrev S2x8192x1x3 : Shape := ⟨4, ![2, 8192, 1, 3]⟩
abbrev S2x1x2048x3 : Shape := ⟨4, ![2, 1, 2048, 3]⟩
abbrev S2x8192x2048x3 : Shape := ⟨4, ![2, 8192, 2048, 3]⟩
abbrev S_ : Shape := ⟨0, ![]⟩
abbrev S2x8192x2048 : Shape := ⟨3, ![2, 8192, 2048]⟩
abbrev S2x8192x4 : Shape := ⟨3, ![2, 8192, 4]⟩

class Facts : Prop where
  bcast_S2x8192x3_S2x8192x1x3_0_1_3 : S2x8192x3.BroadcastsInDim S2x8192x1x3 (![0, 1, 3] : Fin 3 → Fin S2x8192x1x3.rank)
  bcast_S2x2048x3_S2x1x2048x3_0_2_3 : S2x2048x3.BroadcastsInDim S2x1x2048x3 (![0, 2, 3] : Fin 3 → Fin S2x1x2048x3.rank)
  bcast_S2x8192x1x3_S2x8192x2048x3_0_1_2_3 : S2x8192x1x3.BroadcastsInDim S2x8192x2048x3 (![0, 1, 2, 3] : Fin 4 → Fin S2x8192x2048x3.rank)
  bcast_S2x1x2048x3_S2x8192x2048x3_0_1_2_3 : S2x1x2048x3.BroadcastsInDim S2x8192x2048x3 (![0, 1, 2, 3] : Fin 4 → Fin S2x8192x2048x3.rank)
  reducesTo_S2x8192x2048x3_S2x8192x2048_d3 : S2x8192x2048x3.ReducesTo [3] S2x8192x2048
  h_S_ : 0 < S_.numel
  sliceFits_S2x8192x2048_S2x8192x4 : S2x8192x2048.Slices (fun _ => 0) S2x8192x4
  slices_S2x8192x4_S2x8192x3_0_0_0 : S2x8192x4.Slices ![0, 0, 0] S2x8192x3
  slices_S2x8192x4_S2x8192x3_0_0_1 : S2x8192x4.Slices ![0, 0, 1] S2x8192x3

variable [Facts]

def fn {F : FTy → Type} [FloatOps F] (main_arg0 : FVec F S2x8192x3 .f32) (main_arg1 : FVec F S2x2048x3 .f32) (main_arg2 : FVec F S2x64x8192 .f32) (main_arg3 : FVec F S2x128x2048 .f32) (main_arg4 : FVec F S128x192 .f32) (main_arg5 : FVec F S128 .f32) (main_arg6 : FVec F S128 .f32) (main_arg7 : FVec F S5x128 .f32) (main_arg8 : FVec F S5 .f32) (main_arg9 : FVec F S128x5 .f32) (main_arg10 : FVec F S128 .f32) : IVec S2x8192x3 1 :=
  let main_v0 : FVec F S2x8192x1x3 .f32 := broadcastInDim S2x8192x1x3 ![0, 1, 3] bcast_S2x8192x3_S2x8192x1x3_0_1_3 main_arg0
  let main_v1 : FVec F S2x1x2048x3 .f32 := broadcastInDim S2x1x2048x3 ![0, 2, 3] bcast_S2x2048x3_S2x1x2048x3_0_2_3 main_arg1
  let main_v2 : FVec F S2x8192x2048x3 .f32 := broadcastInDim S2x8192x2048x3 ![0, 1, 2, 3] bcast_S2x8192x1x3_S2x8192x2048x3_0_1_2_3 main_v0
  let main_v3 : FVec F S2x8192x2048x3 .f32 := broadcastInDim S2x8192x2048x3 ![0, 1, 2, 3] bcast_S2x1x2048x3_S2x8192x2048x3_0_1_2_3 main_v1
  let main_v4 : FVec F S2x8192x2048x3 .f32 := subf main_v2 main_v3
  let main_v5 : FVec F S2x8192x2048x3 .f32 := mulf main_v4 main_v4
  let main_cst : FVec F S_ .f32 := constant S_ .f32 0x00000000#32
  let main_v6 : FVec F S2x8192x2048 .f32 := (fun x v => Host.reduceAdd x v reducesTo_S2x8192x2048x3_S2x8192x2048_d3 h_S_) main_v5 main_cst
  let main_v7 : FVec F S2x8192x2048 .f32 := Host.negf main_v6
  let main_values : FVec F S2x8192x4 .f32 := (fun x => (Host.topK S2x8192x4 2 (FloatOps.cmpfTotal .gt) x sliceFits_S2x8192x2048_S2x8192x4).1) main_v7
  let main_indices : IVec S2x8192x4 32 := (fun x => (Host.topK S2x8192x4 2 (FloatOps.cmpfTotal .gt) x sliceFits_S2x8192x2048_S2x8192x4).2) main_v7
  let main_v8 : FVec F S2x8192x3 .f32 := (extractStridedSlice S2x8192x3 ![0, 0, 0] · slices_S2x8192x4_S2x8192x3_0_0_0) main_values
  let main_v9 : FVec F S2x8192x3 .f32 := (extractStridedSlice S2x8192x3 ![0, 0, 1] · slices_S2x8192x4_S2x8192x3_0_0_1) main_values
  let main_v10 : IVec S2x8192x3 1 := cmpf .ogt main_v8 main_v9
  main_v10
-- ==== Kernel.lean ====
abbrev S2x8192x3 : Shape := ⟨3, ![2, 8192, 3]⟩
abbrev S2x2048x3 : Shape := ⟨3, ![2, 2048, 3]⟩
abbrev S2x64x8192 : Shape := ⟨3, ![2, 64, 8192]⟩
abbrev S2x128x2048 : Shape := ⟨3, ![2, 128, 2048]⟩
abbrev S128x192 : Shape := ⟨2, ![128, 192]⟩
abbrev S128 : Shape := ⟨1, ![128]⟩
abbrev S5x128 : Shape := ⟨2, ![5, 128]⟩
abbrev S5 : Shape := ⟨1, ![5]⟩
abbrev S128x5 : Shape := ⟨2, ![128, 5]⟩
abbrev S2x3x2048 : Shape := ⟨3, ![2, 3, 2048]⟩
abbrev S_ : Shape := ⟨0, ![]⟩
abbrev S2x8x2048 : Shape := ⟨3, ![2, 8, 2048]⟩
abbrev S2x128x8192 : Shape := ⟨3, ![2, 128, 8192]⟩
abbrev S128x2 : Shape := ⟨2, ![128, 2]⟩
abbrev S1x4096x3 : Shape := ⟨3, ![1, 4096, 3]⟩
abbrev S1x8x2048 : Shape := ⟨3, ![1, 8, 2048]⟩
abbrev S1x128x2048 : Shape := ⟨3, ![1, 128, 2048]⟩
abbrev S1x64x4096 : Shape := ⟨3, ![1, 64, 4096]⟩
abbrev S1x128x4096 : Shape := ⟨3, ![1, 128, 4096]⟩
abbrev S4096x3 : Shape := ⟨2, ![4096, 3]⟩
abbrev S8x2048 : Shape := ⟨2, ![8, 2048]⟩
abbrev S4096x1 : Shape := ⟨2, ![4096, 1]⟩
abbrev S1x2048 : Shape := ⟨2, ![1, 2048]⟩
abbrev S4096x2048 : Shape := ⟨2, ![4096, 2048]⟩
abbrev S4096 : Shape := ⟨1, ![4096]⟩
abbrev S128x2048 : Shape := ⟨2, ![128, 2048]⟩
abbrev S128x4096 : Shape := ⟨2, ![128, 4096]⟩
abbrev S64x4096 : Shape := ⟨2, ![64, 4096]⟩
abbrev S128x128 : Shape := ⟨2, ![128, 128]⟩
abbrev S128x64 : Shape := ⟨2, ![128, 64]⟩
abbrev S128x1 : Shape := ⟨2, ![128, 1]⟩
abbrev S8x128 : Shape := ⟨2, ![8, 128]⟩
abbrev S8 : Shape := ⟨1, ![8]⟩
abbrev S8x1 : Shape := ⟨2, ![8, 1]⟩
abbrev S128x8 : Shape := ⟨2, ![128, 8]⟩
abbrev S8x4096 : Shape := ⟨2, ![8, 4096]⟩

abbrev nBuf : Space → Nat
  | .hbm => 31
  | .vmem => 23
  | .smem => 0
  | _ => 0

abbrev bufTy : (tb : Table) → Fin (tcTables nBuf tb) → BufTy
  | .hbm, ⟨0, _⟩ => ⟨S2x8192x3, .f32⟩
  | .hbm, ⟨1, _⟩ => ⟨S2x2048x3, .f32⟩
  | .hbm, ⟨2, _⟩ => ⟨S2x64x8192, .f32⟩
  | .hbm, ⟨3, _⟩ => ⟨S2x128x2048, .f32⟩
  | .hbm, ⟨4, _⟩ => ⟨S128x192, .f32⟩
  | .hbm, ⟨5, _⟩ => ⟨S128, .f32⟩
  | .hbm, ⟨6, _⟩ => ⟨S128, .f32⟩
  | .hbm, ⟨7, _⟩ => ⟨S5x128, .f32⟩
  | .hbm, ⟨8, _⟩ => ⟨S5, .f32⟩
  | .hbm, ⟨9, _⟩ => ⟨S128x5, .f32⟩
  | .hbm, ⟨10, _⟩ => ⟨S128, .f32⟩
  | .hbm, ⟨11, _⟩ => ⟨S2x3x2048, .f32⟩
  | .hbm, ⟨12, _⟩ => ⟨S_, .i32⟩
  | .hbm, ⟨13, _⟩ => ⟨S_, .f32⟩
  | .hbm, ⟨14, _⟩ => ⟨S2x8x2048, .f32⟩
  | .hbm, ⟨15, _⟩ => ⟨S2x128x8192, .f32⟩
  | .hbm, ⟨16, _⟩ => ⟨S128x2, .f32⟩
  | .hbm, ⟨17, _⟩ => ⟨S_, .i32⟩
  | .hbm, ⟨18, _⟩ => ⟨S_, .f32⟩
  | .hbm, ⟨19, _⟩ => ⟨S8x128, .f32⟩
  | .hbm, ⟨20, _⟩ => ⟨S_, .i32⟩
  | .hbm, ⟨21, _⟩ => ⟨S_, .f32⟩
  | .hbm, ⟨22, _⟩ => ⟨S8, .f32⟩
  | .hbm, ⟨23, _⟩ => ⟨S8x1, .f32⟩
  | .hbm, ⟨24, _⟩ => ⟨S_, .i32⟩
  | .hbm, ⟨25, _⟩ => ⟨S_, .f32⟩
  | .hbm, ⟨26, _⟩ => ⟨S128x8, .f32⟩
  | .hbm, ⟨27, _⟩ => ⟨S128x1, .f32⟩
  | .hbm, ⟨28, _⟩ => ⟨S128x1, .f32⟩
  | .hbm, ⟨29, _⟩ => ⟨S128x1, .f32⟩
  | .hbm, ⟨30, _⟩ => ⟨S2x128x8192, .f32⟩
  | .local _ .vmem, ⟨0, _⟩ => ⟨S1x4096x3, .f32⟩
  | .local _ .vmem, ⟨1, _⟩ => ⟨S1x4096x3, .f32⟩
  | .local _ .vmem, ⟨2, _⟩ => ⟨S1x8x2048, .f32⟩
  | .local _ .vmem, ⟨3, _⟩ => ⟨S1x8x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x64x4096, .f32⟩
  | .local _ .vmem, ⟨7, _⟩ => ⟨S1x64x4096, .f32⟩
  | .local _ .vmem, ⟨8, _⟩ => ⟨S128x192, .f32⟩
  | .local _ .vmem, ⟨9, _⟩ => ⟨S1x128x4096, .f32⟩
  | .local _ .vmem, ⟨10, _⟩ => ⟨S1x128x4096, .f32⟩
  | .local _ .vmem, ⟨11, _⟩ => ⟨S128x2, .f32⟩
  | .local _ .vmem, ⟨12, _⟩ => ⟨S1x128x4096, .f32⟩
  | .local _ .vmem, ⟨13, _⟩ => ⟨S1x128x4096, .f32⟩
  | .local _ .vmem, ⟨14, _⟩ => ⟨S128x2, .f32⟩
  | .local _ .vmem, ⟨15, _⟩ => ⟨S128x1, .f32⟩
  | .local _ .vmem, ⟨16, _⟩ => ⟨S128x1, .f32⟩
  | .local _ .vmem, ⟨17, _⟩ => ⟨S8x128, .f32⟩
  | .local _ .vmem, ⟨18, _⟩ => ⟨S8x1, .f32⟩
  | .local _ .vmem, ⟨19, _⟩ => ⟨S128x8, .f32⟩
  | .local _ .vmem, ⟨20, _⟩ => ⟨S128x1, .f32⟩
  | .local _ .vmem, ⟨21, _⟩ => ⟨S1x128x4096, .f32⟩
  | .local _ .vmem, ⟨22, _⟩ => ⟨S1x128x4096, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_c_0 : Ref sig .tc := ⟨.hbm, 17, rfl⟩
abbrev main_call1_v0 : Ref sig .tc := ⟨.hbm, 18, rfl⟩
abbrev main_v3 : Ref sig .tc := ⟨.hbm, 19, rfl⟩
abbrev main_c_1 : Ref sig .tc := ⟨.hbm, 20, rfl⟩
abbrev main_call2_v0 : Ref sig .tc := ⟨.hbm, 21, rfl⟩
abbrev main_v4 : Ref sig .tc := ⟨.hbm, 22, rfl⟩
abbrev main_v5 : Ref sig .tc := ⟨.hbm, 23, rfl⟩
abbrev main_c_2 : Ref sig .tc := ⟨.hbm, 24, rfl⟩
abbrev main_call3_v0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S128x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S8x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x128x4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== ReferenceIdeal.lean ====
abbrev S2x8192x3 : Shape := ⟨3, ![2, 8192, 3]⟩
abbrev S2x2048x3 : Shape := ⟨3, ![2, 2048, 3]⟩
abbrev S2x64x8192 : Shape := ⟨3, ![2, 64, 8192]⟩
abbrev S2x128x2048 : Shape := ⟨3, ![2, 128, 2048]⟩
abbrev S128x192 : Shape := ⟨2, ![128, 192]⟩
abbrev S128 : Shape := ⟨1, ![128]⟩
abbrev S5x128 : Shape := ⟨2, ![5, 128]⟩
abbrev S5 : Shape := ⟨1, ![5]⟩
abbrev S128x5 : Shape := ⟨2, ![128, 5]⟩
abbrev S2x8192x1x3 : Shape := ⟨4, ![2, 8192, 1, 3]⟩
abbrev S2x1x2048x3 : Shape := ⟨4, ![2, 1, 2048, 3]⟩
abbrev S2x8192x2048x3 : Shape := ⟨4, ![2, 8192, 2048, 3]⟩
abbrev S_ : Shape := ⟨0, ![]⟩
abbrev S2x8192x2048 : Shape := ⟨3, ![2, 8192, 2048]⟩
abbrev S2x8192 : Shape := ⟨2, ![2, 8192]⟩
abbrev S2x8192x1 : Shape := ⟨3, ![2, 8192, 1]⟩
abbrev S2x2048x128 : Shape := ⟨3, ![2, 2048, 128]⟩
abbrev S2x8192x3x1 : Shape := ⟨4, ![2, 8192, 3, 1]⟩
abbrev S2x8192x3x128 : Shape := ⟨4, ![2, 8192, 3, 128]⟩
abbrev S2x8192x128 : Shape := ⟨3, ![2, 8192, 128]⟩
abbrev S2x128x8192 : Shape := ⟨3, ![2, 128, 8192]⟩
abbrev S2x192x8192 : Shape := ⟨3, ![2, 192, 8192]⟩
abbrev S1x128x1 : Shape := ⟨3, ![1, 128, 1]⟩
abbrev S2x8192x5 : Shape := ⟨3, ![2, 8192, 5]⟩
abbrev S2x5x8192 : Shape := ⟨3, ![2, 5, 8192]⟩
abbrev S1x5x1 : Shape := ⟨3, ![1, 5, 1]⟩

abbrev nBuf : Space → Nat
  | .hbm => 132
  | .vmem => 0
  | .smem => 0
  | _ => 0

abbrev hbmTy0_0 (i : Nat) : BufTy := match i % 128 with
  | 0 => ⟨S2x8192x3, .f32⟩
  | 1 => ⟨S2x2048x3, .f32⟩
  | 2 => ⟨S2x64x8192, .f32⟩
  | 3 => ⟨S2x128x2048, .f32⟩
  | 4 => ⟨S128x192, .f32⟩
  | 5 => ⟨S128, .f32⟩
  | 6 => ⟨S128, .f32⟩
  | 7 => ⟨S5x128, .f32⟩
  | 8 => ⟨S5, .f32⟩
  | 9 => ⟨S128x5, .f32⟩
  | 10 => ⟨S128, .f32⟩
  | 11 => ⟨S2x8192x1x3, .f32⟩
  | 12 => ⟨S2x1x2048x3, .f32⟩
  | 13 => ⟨S2x8192x2048x3, .f32⟩
  | 14 => ⟨S2x8192x2048x3, .f32⟩
  | 15 => ⟨S2x8192x2048x3, .f32⟩
  | 16 => ⟨S2x8192x2048x3, .f32⟩
  | 17 => ⟨S_, .f32⟩
  | 18 => ⟨S2x8192x2048, .f32⟩
  | 19 => ⟨S2x8192x2048, .f32⟩
  | 20 => ⟨S2x8192x3, .f32⟩
  | 21 => ⟨S2x8192x3, .i32⟩
  | 22 => ⟨S2x8192x3, .f32⟩
  | 23 => ⟨S_, .f32⟩
  | 24 => ⟨S2x8192x3, .f32⟩
  | 25 => ⟨S2x8192x3, .f32⟩
  | 26 => ⟨S2x8192x3, .f32⟩
  | 27 => ⟨S_, .f32⟩
  | 28 => ⟨S2x8192x3, .f32⟩
  | 29 => ⟨S2x8192x3, .f32⟩
  | 30 => ⟨S_, .f32⟩
  | 31 => ⟨S2x8192x3, .f32⟩
  | 32 => ⟨S2x8192x3, .f32⟩
  | 33 => ⟨S_, .f32⟩
  | 34 => ⟨S2x8192, .f32⟩
  | 35 => ⟨S2x8192x1, .f32⟩
  | 36 => ⟨S2x8192x3, .f32⟩
  | 37 => ⟨S2x8192x3, .f32⟩
  | 38 => ⟨S2x2048x128, .f32⟩
  | 39 => ⟨S_, .i32⟩
  | 40 => ⟨S2x8192x3, .i32⟩
  | 41 => ⟨S2x8192x3, .i1⟩
  | 42 => ⟨S_, .i32⟩
  | 43 => ⟨S2x8192x3, .i32⟩
  | 44 => ⟨S2x8192x3, .i32⟩
  | 45 => ⟨S2x8192x3, .i32⟩
  | 46 => ⟨S2x8192x3x1, .i32⟩
  | 47 => ⟨S2x8192x3x128, .f32⟩
  | 48 => ⟨S2x8192x3x1, .f32⟩
  | 49 => ⟨S2x8192x3x128, .f32⟩
  | 50 => ⟨S2x8192x3x128, .f32⟩
  | 51 => ⟨S_, .f32⟩
  | 52 => ⟨S2x8192x128, .f32⟩
  | 53 => ⟨S2x128x8192, .f32⟩
  | 54 => ⟨S2x192x8192, .f32⟩
  | 55 => ⟨S2x8192x128, .f32⟩
  | 56 => ⟨S2x128x8192, .f32⟩
  | 57 => ⟨S_, .f32⟩
  | 58 => ⟨S128, .f32⟩
  | 59 => ⟨S1x128x1, .f32⟩
  | 60 => ⟨S_, .f32⟩
  | 61 => ⟨S1x128x1, .f32⟩
  | 62 => ⟨S1x128x1, .f32⟩
  | 63 => ⟨S_, .i32⟩
  | 64 => ⟨S_, .f32⟩
  | 65 => ⟨S128, .f32⟩
  | 66 => ⟨S1x128x1, .f32⟩
  | 67 => ⟨S_, .f32⟩
  | 68 => ⟨S1x128x1, .f32⟩
  | 69 => ⟨S1x128x1, .f32⟩
  | 70 => ⟨S2x128x8192, .f32⟩
  | 71 => ⟨S2x128x8192, .f32⟩
  | 72 => ⟨S2x128x8192, .f32⟩
  | 73 => ⟨S_, .f32⟩
  | 74 => ⟨S_, .f32⟩
  | 75 => ⟨S_, .f32⟩
  | 76 => ⟨S_, .f32⟩
  | 77 => ⟨S128, .f32⟩
  | 78 => ⟨S1x128x1, .f32⟩
  | 79 => ⟨S1x128x1, .f32⟩
  | 80 => ⟨S1x128x1, .f32⟩
  | 81 => ⟨S_, .f32⟩
  | 82 => ⟨S_, .i1⟩
  | 83 => ⟨S_, .f32⟩
  | 84 => ⟨S_, .f32⟩
  | 85 => ⟨S1x128x1, .f32⟩
  | 86 => ⟨S1x128x1, .f32⟩
  | 87 => ⟨S2x128x8192, .f32⟩
  | 88 => ⟨S2x128x8192, .f32⟩
  | 89 => ⟨S_, .f32⟩
  | 90 => ⟨S1x128x1, .f32⟩
  | 91 => ⟨S1x128x1, .f32⟩
  | 92 => ⟨S1x128x1, .f32⟩
  | 93 => ⟨S2x128x8192, .f32⟩
  | 94 => ⟨S2x128x8192, .f32⟩
  | 95 => ⟨S1x128x1, .f32⟩
  | 96 => ⟨S2x128x8192, .f32⟩
  | 97 => ⟨S2x128x8192, .f32⟩
  | 98 => ⟨S1x128x1, .f32⟩
  | 99 => ⟨S2x128x8192, .f32⟩
  | 100 => ⟨S2x128x8192, .f32⟩
  | 101 => ⟨S_, .f32⟩
  | 102 => ⟨S2x128x8192, .f32⟩
  | 103 => ⟨S2x128x8192, .f32⟩
  | 104 => ⟨S2x8192x5, .f32⟩
  | 105 => ⟨S2x5x8192, .f32⟩
  | 106 => ⟨S1x5x1, .f32⟩
  | 107 => ⟨S2x5x8192, .f32⟩
  | 108 => ⟨S2x5x8192, .f32⟩
  | 109 => ⟨S2x5x8192, .f32⟩
  | 110 => ⟨S2x5x8192, .f32⟩
  | 111 => ⟨S_, .f32⟩
  | 112 => ⟨S2x5x8192, .f32⟩
  | 113 => ⟨S2x5x8192, .f32⟩
  | 114 => ⟨S_, .f32⟩
  | 115 => ⟨S2x5x8192, .f32⟩
  | 116 => ⟨S2x5x8192, .f32⟩
  | 117 => ⟨S2x5x8192, .f32⟩
  | 118 => ⟨S2x8192x128, .f32⟩
  | 119 => ⟨S2x128x8192, .f32⟩
  | 120 => ⟨S1x128x1, .f32⟩
  | 121 => ⟨S2x128x8192, .f32⟩
  | 122 => ⟨S2x128x8192, .f32⟩
  | 123 => ⟨S2x128x8192, .f32⟩
  | 124 => ⟨S2x128x8192, .f32⟩
  | 125 => ⟨S_, .f32⟩
  | 126 => ⟨S2x128x8192, .f32⟩
  | 127 => ⟨S2x128x8192, .f32⟩
  | _ => ⟨S2x8192x3, .f32⟩

abbrev hbmTy0_1 (i : Nat) : BufTy := match i % 128 with
  | 0 => ⟨S_, .f32⟩
  | 1 => ⟨S2x128x8192, .f32⟩
  | 2 => ⟨S2x128x8192, .f32⟩
  | 3 => ⟨S2x128x8192, .f32⟩
  | _ => ⟨S2x8192x3, .f32⟩

abbrev hbmTy (i : Nat) : BufTy := match i / 128 with
  | 0 => hbmTy0_0 i
  | 1 => hbmTy0_1 i
  | _ => ⟨S2x8192x3, .f32⟩

abbrev bufTy : (tb : Table) → Fin (tcTables nBuf tb) → BufTy
  | .hbm, ⟨i, _⟩ => hbmTy i
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_values : Ref sig .tc := ⟨.hbm, 20, rfl⟩
abbrev main_indices : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_cst_0 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_cst_1 : Ref sig .tc := ⟨.hbm, 74, rfl⟩
abbrev main_call0_v8 : Ref sig .tc := ⟨.hbm, 75, rfl⟩
abbrev main_call0_cst_2 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_v12 : Ref sig .tc := ⟨.hbm, 80, rfl⟩
abbrev main_call0_cst_3 : Ref sig .tc := ⟨.hbm, 81, rfl⟩
abbrev main_call0_v13 : Ref sig .tc := ⟨.hbm, 82, rfl⟩
abbrev main_call0_cst_4 : Ref sig .tc := ⟨.hbm, 83, rfl⟩
abbrev main_call0_call0_v0 : Ref sig .tc := ⟨.hbm, 84, rfl⟩
abbrev main_call0_call0_v1 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_9 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_call1_cst : Ref sig .tc := ⟨.hbm, 101, rfl⟩
abbrev main_call1_v0 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_10 : Ref sig .tc := ⟨.hbm, 111, rfl⟩
abbrev main_v62 : Ref sig .tc := ⟨.hbm, 112, rfl⟩
abbrev main_v63 : Ref sig .tc := ⟨.hbm, 113, rfl⟩
abbrev main_cst_11 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_cst_12 : Ref sig .tc := ⟨.hbm, 125, rfl⟩
abbrev main_v74 : Ref sig .tc := ⟨.hbm, 126, rfl⟩
abbrev main_v75 : Ref sig .tc := ⟨.hbm, 127, rfl⟩
abbrev main_cst_13 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩

abbrev nD : Nat := 1
abbrev τ : Topo := Topo.v7x

variable {F : FTy → Type} [FloatOps F]
-- ==== Proof.Frames.lean ====
/- The reference's frame. The two kernel programs' frames are the generated ones and need nothing more. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The reference always ends with its argument arrays as they were and every semaphore counter at zero: its run says
    the first of the arguments, and it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Proof

end
-- ==== Proof.Nearest.lean ====
/- The three nearest known points of one unknown point, found in two ways: by sorting the distances, and by taking the
   least distance three times, each time putting infinity in place of the least. Where the four least distances are
   four different numbers both ways find the same three points. Nothing here mentions a program. -/
module

public import Idealize.ShloMosaic.PureOps.Ideal
public import Idealize.ShloMosaic.Lib.SortFacts

@[expose] public section

noncomputable section

namespace Cert.Proof

open Idealize.ShloMosaic

/-! ## By taking the least three times -/

/-- The least of finitely many extended reals (infinity of none). -/
def least {n : Nat} (d : Fin n → EReal) : EReal := Finset.univ.fold min ⊤ d

/-- The distances with infinity in place of every distance that is the least. -/
def strike {n : Nat} (d : Fin n → EReal) : Fin n → EReal := fun m => if d m = least d then ⊤ else d m

/-- A distance that no other is below is the least. -/
theorem least_eq {n : Nat} (d : Fin n → EReal) (i : Fin n) (h : ∀ m, d i ≤ d m) : least d = d i := by
  refine le_antisymm ?_ ?_
  · exact (Finset.fold_min_le _).mpr (Or.inr ⟨i, Finset.mem_univ i, le_refl _⟩)
  · exact (Finset.le_fold_min _).mpr ⟨le_top, fun m _ => h m⟩

/-- `i₁`, `i₂`, `i₃` are the places of the three least distances, which are three different finite numbers, and every
    other distance is above them. -/
structure Nearest {n : Nat} (d : Fin n → EReal) (i₁ i₂ i₃ : Fin n) : Prop where
  /-- The least is below the second. -/
  first : d i₁ < d i₂
  /-- The second is below the third. -/
  second : d i₂ < d i₃
  /-- The third is finite. -/
  third : d i₃ < ⊤
  /-- Every other distance is above the third. -/
  rest : ∀ m, m ≠ i₁ → m ≠ i₂ → m ≠ i₃ → d i₃ < d m

namespace Nearest

variable {n : Nat} {d : Fin n → EReal} {i₁ i₂ i₃ : Fin n}

/-- The least distance is the first point's. -/
theorem least_first (h : Nearest d i₁ i₂ i₃) : least d = d i₁ := by
  refine least_eq d i₁ fun m => ?_
  by_cases h₁ : m = i₁
  · rw [h₁]
  by_cases h₂ : m = i₂
  · rw [h₂]; exact h.first.le
  by_cases h₃ : m = i₃
  · rw [h₃]; exact (h.first.trans h.second).le
  · exact (h.first.trans (h.second.trans (h.rest m h₁ h₂ h₃))).le

/-- Only the first point is at the least distance. -/
theorem eq_first (h : Nearest d i₁ i₂ i₃) (m : Fin n) : d m = least d ↔ m = i₁ := by
  rw [h.least_first]
  refine ⟨fun e => ?_, fun e => by rw [e]⟩
  by_contra h₁
  have : d i₁ < d m := by
    by_cases h₂ : m = i₂
    · rw [h₂]; exact h.first
    by_cases h₃ : m = i₃
    · rw [h₃]; exact h.first.trans h.second
    · exact h.first.trans (h.second.trans (h.rest m h₁ h₂ h₃))
  exact absurd e this.ne'

/-- After striking out the least, the first point is at infinity and the others stay. -/
theorem strike_first (h : Nearest d i₁ i₂ i₃) (m : Fin n) : strike d m = if m = i₁ then ⊤ else d m := by
  unfold strike
  exact if_congr (h.eq_first m) rfl rfl

/-- The second point is not the first. -/
theorem ne₁₂ (h : Nearest d i₁ i₂ i₃) : i₂ ≠ i₁ := fun e => absurd h.first (by rw [e]; exact lt_irrefl _)

/-- The third point is not the second. -/
theorem ne₂₃ (h : Nearest d i₁ i₂ i₃) : i₃ ≠ i₂ := fun e => absurd h.second (by rw [e]; exact lt_irrefl _)

/-- The third point is not the first. -/
theorem ne₁₃ (h : Nearest d i₁ i₂ i₃) : i₃ ≠ i₁ :=
  fun e => absurd (h.first.trans h.second) (by rw [e]; exact lt_irrefl _)

/-- The least of what is left is the second point's distance. -/
theorem least_second (h : Nearest d i₁ i₂ i₃) : least (strike d) = d i₂ := by
  have e : strike d i₂ = d i₂ := by rw [h.strike_first, if_neg h.ne₁₂]
  rw [← e]
  refine least_eq _ i₂ fun m => ?_
  rw [e, h.strike_first]
  split_ifs with h₁
  · exact le_top
  by_cases h₂ : m = i₂
  · rw [h₂]
  by_cases h₃ : m = i₃
  · rw [h₃]; exact h.second.le
  · exact (h.second.trans (h.rest m h₁ h₂ h₃)).le

/-- Only the second point is at the least of what is left. -/
theorem eq_second (h : Nearest d i₁ i₂ i₃) (m : Fin n) : strike d m = least (strike d) ↔ m = i₂ := by
  rw [h.least_second, h.strike_first]
  constructor
  · intro e
    split_ifs at e with h₁
    · exact absurd e (h.second.trans h.third).ne'
    by_contra h₂
    by_cases h₃ : m = i₃
    · rw [h₃] at e; exact absurd e h.second.ne'
    · exact absurd e (h.second.trans (h.rest m h₁ h₂ h₃)).ne'
  · rintro rfl
    rw [if_neg h.ne₁₂]

/-- After striking out the second too, both are at infinity and the others stay. -/
theorem strike_second (h : Nearest d i₁ i₂ i₃) (m : Fin n) :
    strike (strike d) m = if m = i₂ then ⊤ else if m = i₁ then ⊤ else d m := by
  rw [← h.strike_first]
  exact if_congr (h.eq_second m) rfl rfl

/-- The least of what is left then is the third point's distance. -/
theorem least_third (h : Nearest d i₁ i₂ i₃) : least (strike (strike d)) = d i₃ := by
  have e : strike (strike d) i₃ = d i₃ := by rw [h.strike_second, if_neg h.ne₂₃, if_neg h.ne₁₃]
  rw [← e]
  refine least_eq _ i₃ fun m => ?_
  rw [e, h.strike_second]
  split_ifs with h₂ h₁
  · exact le_top
  · exact le_top
  by_cases h₃ : m = i₃
  · rw [h₃]
  · exact (h.rest m h₁ h₂ h₃).le

/-- Only the third point is at it. -/
theorem eq_third (h : Nearest d i₁ i₂ i₃) (m : Fin n) :
    strike (strike d) m = least (strike (strike d)) ↔ m = i₃ := by
  rw [h.least_third, h.strike_second]
  constructor
  · intro e
    split_ifs at e with h₂ h₁
    · exact absurd e h.third.ne'
    · exact absurd e h.third.ne'
    by_contra h₃
    exact absurd e (h.rest m h₁ h₂ h₃).ne'
  · rintro rfl
    rw [if_neg h.ne₂₃, if_neg h.ne₁₃]

/-- The blend: of the products of `f` with a row that holds `w₁`, `w₂`, `w₃` at the points found by the three strikes and
    zero elsewhere, only three are not zero. -/
theorem blend (h : Nearest d i₁ i₂ i₃) (f : Fin n → EReal) (w₁ w₂ w₃ : EReal) :
    ∑ m, f m * (if d m = least d then w₁ else if strike d m = least (strike d) then w₂ else
      if strike (strike d) m = least (strike (strike d)) then w₃ else 0)
      = f i₁ * w₁ + (f i₂ * w₂ + f i₃ * w₃) := by
  have e : ∀ m, f m * (if d m = least d then w₁ else if strike d m = least (strike d) then w₂ else
      if strike (strike d) m = least (strike (strike d)) then w₃ else 0)
      = (if m = i₁ then f m * w₁ else 0) + ((if m = i₂ then f m * w₂ else 0) + if m = i₃ then f m * w₃ else 0) := by
    intro m
    rw [if_congr (h.eq_first m) rfl rfl, if_congr (h.eq_second m) rfl rfl, if_congr (h.eq_third m) rfl rfl]
    by_cases h₁ : m = i₁
    · subst h₁
      simp [h.ne₁₂.symm, h.ne₁₃.symm]
    by_cases h₂ : m = i₂
    · subst h₂
      simp [h.ne₁₂, h.ne₂₃.symm]
    by_cases h₃ : m = i₃
    · subst h₃
      simp [h.ne₁₃, h.ne₂₃]
    · simp [h₁, h₂, h₃]
  simp_rw [e, Finset.sum_add_distrib, Finset.sum_ite_eq', Finset.mem_univ, if_true]

end Nearest

/-! ## By sorting -/

/-- Position `k` goes before position `k'` in the order in which the greatest opposite distance comes first. -/
def ahead {n : Nat} (d : Fin n → EReal) (k k' : Fin n) : Bool := Ideal.cmpTotal .gt (-(d k)) (-(d k')) == 1#1

/-- It does so exactly when it is nearer. -/
theorem ahead_iff {n : Nat} (d : Fin n → EReal) (k k' : Fin n) : ahead d k k' = true ↔ d k < d k' := by
  have e : Ideal.cmpTotal .gt (-(d k)) (-(d k')) = BitVec.ofBool (decide (-(d k') < -(d k))) := rfl
  unfold ahead
  rw [e]
  by_cases h : d k < d k'
  · simp [EReal.neg_lt_neg_iff.mpr h, h]
  · simp [mt EReal.neg_lt_neg_iff.mp h, h]

/-- The place of the point that comes at rank `r` when the points are sorted by distance. -/
def ranked {n : Nat} (d : Fin n → EReal) (r : Fin n) : Fin n := sortedFrom (ahead d) r

/-- Ranks are in order of distance. -/
theorem ranked_mono {n : Nat} (d : Fin n → EReal) {r s : Fin n} (h : r < s) : d (ranked d r) ≤ d (ranked d s) := by
  have nle : ∀ a b, ahead d a b = false ↔ d b ≤ d a := fun a b => by
    rw [← not_iff_not, Bool.not_eq_false, not_le]; exact ahead_iff d a b
  have := sortedFrom_noInversion (ahead d) (ahead d)
    (fun a b e => (nle b a).mpr ((ahead_iff d a b).mp e).le) (fun _ _ e => e)
    (fun a b c e e' => (nle a c).mpr (((nle b c).mp e').trans ((nle a b).mp e))) r s h
  exact (nle _ _).mp this

/-- Where the four least distances, by rank, are four different numbers, the points of the first three ranks are the
    three nearest. -/
theorem nearest_ranked {n : Nat} (d : Fin n → EReal) (r₁ r₂ r₃ r₄ : Fin n) (e₁ : r₁.val = 0) (e₂ : r₂.val = 1)
    (e₃ : r₃.val = 2) (e₄ : r₄.val = 3) (h₁ : d (ranked d r₁) < d (ranked d r₂))
    (h₂ : d (ranked d r₂) < d (ranked d r₃)) (h₃ : d (ranked d r₃) < d (ranked d r₄)) :
    Nearest d (ranked d r₁) (ranked d r₂) (ranked d r₃) := by
  refine ⟨h₁, h₂, h₃.trans_le le_top, fun m m₁ m₂ m₃ => ?_⟩
  obtain ⟨r, rfl⟩ := sortedFrom_surjective (ahead d) m
  change d (ranked d r₃) < d (ranked d r)
  have n₁ : r ≠ r₁ := fun e => m₁ (by rw [e]; rfl)
  have n₂ : r ≠ r₂ := fun e => m₂ (by rw [e]; rfl)
  have n₃ : r ≠ r₃ := fun e => m₃ (by rw [e]; rfl)
  have n₁' : r.val ≠ r₁.val := fun e => n₁ (Fin.ext e)
  have n₂' : r.val ≠ r₂.val := fun e => n₂ (Fin.ext e)
  have n₃' : r.val ≠ r₃.val := fun e => n₃ (Fin.ext e)
  by_cases e : r = r₄
  · rw [e]; exact h₃
  · have e' : r.val ≠ r₄.val := fun e' => e (Fin.ext e')
    exact h₃.trans_le (ranked_mono d (Fin.lt_def.mpr (by omega)))

end Cert.Proof
-- ==== Proof.Spread.lean ====
/- The variance of a finite family of extended reals, read in two ways: the mean of the squares less the square of the
   mean, and the mean of the squared differences from the mean. Of finite numbers they are one number. Where a number of
   the family is infinite they are not, but dividing by the square root of either gives zero. Nothing here mentions a
   program. -/
module

public import Idealize.ShloMosaic.PureOps.Ideal

@[expose] public section

noncomputable section

namespace Cert.Proof

open Idealize.ShloMosaic
open scoped BigOperators

/-! ## Sums of extended reals -/

/-- A square is not negative, of an infinite number either. -/
theorem sq_nonneg' (x : EReal) : 0 ≤ x * x := by
  induction x with
  | bot => rw [EReal.bot_mul_bot]; exact le_top
  | top => rw [EReal.top_mul_top]; exact le_top
  | coe r => rw [← EReal.coe_mul]; exact_mod_cast mul_self_nonneg r

/-- The square of an infinite number is infinity. -/
theorem sq_infinite {x : EReal} (h : x = ⊤ ∨ x = ⊥) : x * x = ⊤ := by
  rcases h with rfl | rfl
  · exact EReal.top_mul_top
  · exact EReal.bot_mul_bot

/-- A number less an infinite one is infinite. -/
theorem sub_infinite {x y : EReal} (h : y = ⊤ ∨ y = ⊥) : x - y = ⊤ ∨ x - y = ⊥ := by
  rcases h with rfl | rfl
  · exact Or.inr (EReal.sub_top x)
  · induction x with
    | bot => exact Or.inr (EReal.bot_sub _)
    | top => exact Or.inl rfl
    | coe r => exact Or.inl (EReal.coe_sub_bot r)

variable {ι : Type} [Fintype ι] [DecidableEq ι]

/-- A sum with minus infinity in it is minus infinity. -/
theorem sum_bot (h : ι → EReal) (i : ι) (e : h i = ⊥) : ∑ j, h j = ⊥ := by
  rw [← Finset.add_sum_erase Finset.univ h (Finset.mem_univ i), e, EReal.bot_add]

/-- A sum without minus infinity in it is not minus infinity. -/
theorem sum_ne_bot (s : Finset ι) (h : ι → EReal) (e : ∀ j ∈ s, h j ≠ ⊥) : ∑ j ∈ s, h j ≠ ⊥ := by
  induction s using Finset.induction_on with
  | empty => simp
  | insert a s ha ih =>
    rw [Finset.sum_insert ha, Ne, EReal.add_eq_bot_iff, not_or]
    exact ⟨e a (Finset.mem_insert_self a s), ih fun j hj => e j (Finset.mem_insert_of_mem hj)⟩

/-- A sum with infinity and without minus infinity in it is infinity. -/
theorem sum_top (h : ι → EReal) (i : ι) (e : h i = ⊤) (b : ∀ j, h j ≠ ⊥) : ∑ j, h j = ⊤ := by
  rw [← Finset.add_sum_erase Finset.univ h (Finset.mem_univ i), e]
  exact EReal.top_add_of_ne_bot (sum_ne_bot _ h fun j _ => b j)

/-- A sum with an infinite number in it is infinite. -/
theorem sum_infinite (h : ι → EReal) (i : ι) (e : h i = ⊤ ∨ h i = ⊥) : (∑ j, h j) = ⊤ ∨ (∑ j, h j) = ⊥ := by
  by_cases b : ∃ j, h j = ⊥
  · obtain ⟨j, hj⟩ := b
    exact Or.inr (sum_bot h j hj)
  · push Not at b
    exact Or.inl (sum_top h i (e.resolve_right (b i)) b)

/-- The sum of finite numbers is the sum of the reals they are. -/
theorem sum_coe (r : ι → ℝ) : ∑ j, (r j : EReal) = ((∑ j, r j : ℝ) : EReal) := by
  symm
  exact map_sum (⟨⟨Real.toEReal, EReal.coe_zero⟩, EReal.coe_add⟩ : ℝ →+ EReal) r Finset.univ

/-! ## Dividing by a positive real -/

/-- Division by a real that is not zero is the product with its inverse. -/
theorem div_real (x : EReal) {n : ℝ} (hn : n ≠ 0) : Ideal.div x (n : EReal) = x * ((n⁻¹ : ℝ) : EReal) := by
  unfold Ideal.div
  rw [if_neg (by exact_mod_cast hn), EReal.coe_inv]

/-- An infinite number over a positive real stays what it is. -/
theorem div_infinite {x : EReal} (h : x = ⊤ ∨ x = ⊥) {n : ℝ} (hn : 0 < n) : Ideal.div x (n : EReal) = x := by
  rw [div_real x hn.ne']
  have : 0 < n⁻¹ := inv_pos.mpr hn
  rcases h with rfl | rfl
  · exact EReal.top_mul_coe_of_pos this
  · exact EReal.bot_mul_coe_of_pos this

/-- A number over an infinite one is zero. -/
theorem over_infinite (x : EReal) {y : EReal} (h : y = ⊤ ∨ y = ⊥) : Ideal.div x y = 0 := by
  unfold Ideal.div
  rcases h with rfl | rfl
  · rw [if_neg EReal.top_ne_zero, EReal.inv_top, mul_zero]
  · rw [if_neg EReal.bot_ne_zero, EReal.inv_bot, mul_zero]

/-! ## The two variances -/

/-- The mean. -/
def mean (n : ℝ) (h : ι → EReal) : EReal := Ideal.div (∑ i, h i) (n : EReal)

/-- The variance as the mean of the squares less the square of the mean. -/
def spreadOfSquares (n : ℝ) (h : ι → EReal) : EReal :=
  Ideal.div (∑ i, h i * h i) (n : EReal) - mean n h * mean n h

/-- The variance as the mean of the squared differences from the mean. -/
def spreadCentred (n : ℝ) (h : ι → EReal) : EReal :=
  Ideal.div (∑ i, (h i - mean n h) * (h i - mean n h)) (n : EReal)

/-- Of finite numbers the two variances are one. -/
theorem spread_finite {n : ℝ} (hn : 0 < n) (hc : (Fintype.card ι : ℝ) = n) (r : ι → ℝ) :
    spreadOfSquares n (fun i => (r i : EReal)) = spreadCentred n (fun i => (r i : EReal)) := by
  have hm : mean n (fun i => (r i : EReal)) = (((∑ i, r i) * n⁻¹ : ℝ) : EReal) := by
    unfold mean
    rw [div_real _ hn.ne', sum_coe, EReal.coe_mul]
  unfold spreadOfSquares spreadCentred
  rw [hm]
  simp_rw [← EReal.coe_sub, ← EReal.coe_mul]
  rw [sum_coe, sum_coe, div_real _ hn.ne', div_real _ hn.ne', ← EReal.coe_mul, ← EReal.coe_mul, ← EReal.coe_sub]
  congr 1
  have e : ∑ i, (r i - (∑ j, r j) * n⁻¹) * (r i - (∑ j, r j) * n⁻¹)
      = ∑ i, r i * r i - 2 * ((∑ j, r j) * n⁻¹) * (∑ j, r j) + n * (((∑ j, r j) * n⁻¹) * ((∑ j, r j) * n⁻¹)) := by
    rw [Finset.mul_sum (s := Finset.univ) (f := r)]
    rw [← Finset.sum_sub_distrib, ← hc, ← nsmul_eq_mul, ← Finset.card_univ, ← Finset.sum_const, ← Finset.sum_add_distrib]
    refine Finset.sum_congr rfl fun i _ => ?_
    ring
  rw [e]
  have hn' := hn.ne'
  field_simp
  ring

/-- A number's difference from the mean over the root of the variance is the same by either variance. -/
theorem normalise_eq {n : ℝ} (hn : 0 < n) (hc : (Fintype.card ι : ℝ) = n) (h : ι → EReal) (a eps : EReal)
    (he : eps ≠ ⊥) :
    Ideal.div (a - mean n h) (Ideal.sqrt (spreadOfSquares n h + eps))
      = Ideal.div (a - mean n h) (Ideal.sqrt (spreadCentred n h + eps)) := by
  by_cases hf : ∃ i, h i = ⊤ ∨ h i = ⊥
  · obtain ⟨i, hi⟩ := hf
    have hm : mean n h = ⊤ ∨ mean n h = ⊥ := by
      have := sum_infinite h i hi
      unfold mean
      rwa [div_infinite this hn]
    have hq : ∑ j, h j * h j = ⊤ :=
      sum_top _ i (sq_infinite hi) fun j e => absurd (sq_nonneg' (h j)) (by rw [e]; simp)
    have hd : ∑ j, (h j - mean n h) * (h j - mean n h) = ⊤ :=
      sum_top _ i (sq_infinite (sub_infinite hm)) fun j e => absurd (sq_nonneg' (h j - mean n h)) (by rw [e]; simp)
    have hs : spreadOfSquares n h = ⊥ := by
      unfold spreadOfSquares
      rw [hq, sq_infinite hm, div_infinite (Or.inl rfl) hn, EReal.sub_top]
    have ht : spreadCentred n h = ⊤ := by
      unfold spreadCentred
      rw [hd, div_infinite (Or.inl rfl) hn]
    rw [hs, ht, EReal.bot_add, EReal.top_add_of_ne_bot he, over_infinite _ (Or.inr (rfl : Ideal.sqrt ⊥ = ⊥)),
      over_infinite _ (Or.inl (rfl : Ideal.sqrt ⊤ = ⊤))]
  · push Not at hf
    have e : h = fun i => ((h i).toReal : EReal) := funext fun i => (EReal.coe_toReal (hf i).1 (hf i).2).symm
    rw [e, spread_finite hn hc]

end Cert.Proof
-- ==== Proof.Net.lean ====
/- What the two programs compute, as functions of a few extended reals at a time: the squared distance of two points,
   the weight of a neighbour, the blend of a feature over the three nearest points (as found by striking out and as found
   by sorting), the first layer, the normalisation, and the gate of the last step. Nothing here mentions a program. -/
module

public import proofs.«01_k».proof.Proof.Nearest
public import proofs.«01_k».proof.Proof.Spread

@[expose] public section

noncomputable section

namespace Cert.Proof

open Idealize.ShloMosaic
open scoped BigOperators

/-- The squared distance of two points of space. -/
def gap (u k : Fin 3 → EReal) : EReal :=
  (u 0 - k 0) * (u 0 - k 0) + (u 1 - k 1) * (u 1 - k 1) + (u 2 - k 2) * (u 2 - k 2)

/-- The number that both programs add to a distance before they invert it. -/
def tiny : EReal := Ideal.ofBits .f32 0x322BCC77#32

/-- The inverse distance of a neighbour at squared distance `d`. -/
def inverse (d : EReal) : EReal := Ideal.div 1 (Ideal.sqrt (max d 0) + tiny)

/-- The weight of the neighbour at squared distance `d` among three at `a`, `b`, `c`. -/
def share (a b c d : EReal) : EReal := Ideal.div (inverse d) (inverse a + inverse b + inverse c)

/-- The blend of the feature `f` over the three nearest points, found by striking out. -/
def blendStruck (d f : Fin 2048 → EReal) : EReal :=
  ∑ m, f m * (if d m = least d then
      share (least d) (least (strike d)) (least (strike (strike d))) (least d)
    else if strike d m = least (strike d) then
      share (least d) (least (strike d)) (least (strike (strike d))) (least (strike d))
    else if strike (strike d) m = least (strike (strike d)) then
      share (least d) (least (strike d)) (least (strike (strike d))) (least (strike (strike d)))
    else 0)

/-- The blend of the feature `f` over the three nearest points, found by sorting. -/
def blendRanked (d f : Fin 2048 → EReal) : EReal :=
  f (ranked d 0) * share (d (ranked d 0)) (d (ranked d 1)) (d (ranked d 2)) (d (ranked d 0))
    + f (ranked d 1) * share (d (ranked d 0)) (d (ranked d 1)) (d (ranked d 2)) (d (ranked d 1))
    + f (ranked d 2) * share (d (ranked d 0)) (d (ranked d 1)) (d (ranked d 2)) (d (ranked d 2))

/-- The points of the first three ranks are the three nearest. -/
def Apart (d : Fin 2048 → EReal) : Prop := Nearest d (ranked d 0) (ranked d 1) (ranked d 2)

/-- Where the nearest points are apart both blends are one. -/
theorem blend_eq {d : Fin 2048 → EReal} (h : Apart d) (f : Fin 2048 → EReal) : blendStruck d f = blendRanked d f := by
  unfold blendStruck blendRanked
  rw [Nearest.blend h, Nearest.least_first h, Nearest.least_second h, Nearest.least_third h, add_assoc]

/-- The first layer at one output channel: its row of weights against the blended features and the point's own. -/
def layer (w : Fin 192 → EReal) (a : Fin 128 → EReal) (b : Fin 64 → EReal) : EReal :=
  (∑ c : Fin 128, w ⟨c.val, by omega⟩ * a c) + ∑ c : Fin 64, w ⟨128 + c.val, by omega⟩ * b c

/-- The number that both programs add to a variance before they take its root. -/
def slack : EReal := Ideal.ofBits .f32 0x3727C5AC#32

/-- The normalised, scaled, shifted and clipped first layer, from the mean and the variance of its channel. -/
def clipped (μ v g b a : EReal) : EReal := max (Ideal.div (a - μ) (Ideal.sqrt (v + slack)) * g + b) 0

/-- One of the numbers in the middle of the gate. -/
def middle (w : Fin 128 → EReal) (b : EReal) (y : Fin 128 → EReal) : EReal :=
  (∑ c, w c * y c + b) * Ideal.logistic (∑ c, w c * y c + b)

/-- The gate at one channel, times the channel. -/
def gated {n : Nat} (wr : Fin n → Fin 128 → EReal) (br : Fin n → EReal) (we : Fin n → EReal) (be : EReal)
    (y : Fin 128 → EReal) (yo : EReal) : EReal :=
  Ideal.logistic (∑ j, we j * middle (wr j) (br j) y + be) * yo

/-- Three rows of zeros more in the middle of the gate change nothing. -/
theorem gated_padded (wr : Fin 5 → Fin 128 → EReal) (br : Fin 5 → EReal) (we : Fin 5 → EReal) (be : EReal)
    (y : Fin 128 → EReal) (yo : EReal) (wr' : Fin 8 → Fin 128 → EReal) (br' : Fin 8 → EReal) (we' : Fin 8 → EReal)
    (hr : ∀ j : Fin 5, wr' (Fin.castAdd 3 j) = wr j) (hb : ∀ j : Fin 5, br' (Fin.castAdd 3 j) = br j)
    (he : ∀ j : Fin 5, we' (Fin.castAdd 3 j) = we j) (hz : ∀ j : Fin 3, we' (Fin.natAdd 5 j) = 0) :
    gated wr' br' we' be y yo = gated wr br we be y yo := by
  unfold gated
  have e : ∑ j, we' j * middle (wr' j) (br' j) y = ∑ j, we j * middle (wr j) (br j) y := by
    rw [show (∑ j : Fin 8, we' j * middle (wr' j) (br' j) y) = _ from
      Fin.sum_univ_add (a := 5) (b := 3) fun j => we' j * middle (wr' j) (br' j) y]
    simp_rw [hr, hb, he, hz, zero_mul, Finset.sum_const_zero, add_zero]
  rw [e]

end Cert.Proof
-- ==== Proof.Sorted.lean ====
/- What a sort of the negated distances gives: the values and the places of the points by rank. -/
module

public import proofs.«01_k».proof.Proof.Net
public import Idealize.ShloMosaic.PureOps
public import Idealize.ShloMosaic.Lib.Pointwise

@[expose] public section

set_option maxRecDepth 16384

noncomputable section

namespace Cert.Proof

open Idealize.ShloMosaic
open scoped BigOperators

/-- The array of the distances of every pair of points. -/
abbrev Grid : Shape := ⟨3, ![2, 8192, 2048]⟩

/-- The place with another last coordinate. -/
theorem along_last (b : Fin 2) (n : Fin 8192) (r k : Fin 2048) :
    Shape.Idx.along (ix3 b n r : Grid.Idx) (2 : Fin 3) k = (ix3 b n k : Grid.Idx) := by
  funext a
  unfold Shape.Idx.along
  match a with
  | ⟨0, _⟩ => rfl
  | ⟨1, _⟩ => rfl
  | ⟨2, _⟩ => rfl

/-- The order that the sort follows at a place is the order of the ranks. -/
theorem sorted_ranked (x : Grid.Idx → EReal) (d : Fin 2048 → EReal) (b : Fin 2) (n : Fin 8192)
    (hx : ∀ m, x (ix3 b n m) = -(d m)) (r : Fin 2048) :
    sortedFrom (fun k k' : Fin 2048 => FloatOps.cmpfTotal (F := Ideal) (φ := .f32) .gt
        (x (Shape.Idx.along (ix3 b n r : Grid.Idx) (2 : Fin 3) k))
        (x (Shape.Idx.along (ix3 b n r : Grid.Idx) (2 : Fin 3) k')) == 1#1) r = ranked d r := by
  unfold ranked
  refine congrArg (fun f : Fin 2048 → Fin 2048 → Bool => sortedFrom f r) (funext fun k => funext fun k' => ?_)
  rw [along_last, along_last, hx, hx]
  rfl

attribute [local irreducible] sortedFrom in
/-- The pair of sorted arrays at a place, where the array holds the negated distances. -/
theorem sort_apply (x : Grid.Idx → EReal) (y : Grid.Idx → BitVec 32) (d : Fin 2048 → EReal) (b : Fin 2) (n : Fin 8192)
    (hx : ∀ m, x (ix3 b n m) = -(d m)) (r : Fin 2048) :
    (Host.sort2 Grid 2 (fun l r => FloatOps.cmpfTotal (F := Ideal) (φ := .f32) .gt l.1 r.1) x y).1 (ix3 b n r)
        = x (ix3 b n (ranked d r))
      ∧ (Host.sort2 Grid 2 (fun l r => FloatOps.cmpfTotal (F := Ideal) (φ := .f32) .gt l.1 r.1) x y).2 (ix3 b n r)
        = y (ix3 b n (ranked d r)) := by
  have e := (congrArg (Shape.Idx.along (ix3 b n r : Grid.Idx) (2 : Fin 3)) (sorted_ranked x d b n hx r)).trans
    (along_last b n r (ranked d r))
  unfold Host.sort2
  rw [dif_pos (show 2 < Grid.rank from by decide)]
  exact ⟨congrArg x e, congrArg y e⟩

/-- The start of an array, read at a place. -/
theorem start_apply {α : Type} {K : Nat} (x : Grid.Idx → α) (hK : K ≤ 2048) (h : Grid.Slices (fun _ => 0) ⟨3, ![2, 8192, K]⟩)
    (b : Fin 2) (n : Fin 8192) (k : Fin K) :
    extractStridedSlice ⟨3, ![2, 8192, K]⟩ (fun _ => 0) x h (ix3 b n k) = x (ix3 b n ⟨k.val, k.isLt.trans_le hK⟩) := by
  unfold extractStridedSlice
  refine congrArg x (funext fun a => Fin.ext ?_)
  match a with
  | ⟨0, _⟩ => exact Nat.zero_add _
  | ⟨1, _⟩ => exact Nat.zero_add _
  | ⟨2, _⟩ => exact Nat.zero_add _

/-- The greatest of the negated distances: at rank `r`, the negated distance of the point of rank `r`. -/
theorem top_value {K : Nat} (x : Grid.Idx → EReal) (d : Fin 2048 → EReal) (b : Fin 2) (n : Fin 8192)
    (hx : ∀ m, x (ix3 b n m) = -(d m)) (hK : K ≤ 2048) (h : Grid.Slices (fun _ => 0) ⟨3, ![2, 8192, K]⟩) (k : Fin K) :
    (Host.topK ⟨3, ![2, 8192, K]⟩ 2 (FloatOps.cmpfTotal (F := Ideal) (φ := .f32) .gt) x h).1 (ix3 b n k)
      = -(d (ranked d ⟨k.val, k.isLt.trans_le hK⟩)) := by
  unfold Host.topK
  dsimp only
  rw [start_apply _ hK, (sort_apply x _ d b n hx _).1, hx]

/-- Their places: at rank `r`, the number of the point of rank `r`. -/
theorem top_place {K : Nat} (x : Grid.Idx → EReal) (d : Fin 2048 → EReal) (b : Fin 2) (n : Fin 8192)
    (hx : ∀ m, x (ix3 b n m) = -(d m)) (hK : K ≤ 2048) (h : Grid.Slices (fun _ => 0) ⟨3, ![2, 8192, K]⟩) (k : Fin K) :
    (Host.topK ⟨3, ![2, 8192, K]⟩ 2 (FloatOps.cmpfTotal (F := Ideal) (φ := .f32) .gt) x h).2 (ix3 b n k)
      = BitVec.ofNat 32 (ranked d ⟨k.val, k.isLt.trans_le hK⟩).val := by
  unfold Host.topK
  dsimp only
  rw [start_apply _ hK, (sort_apply x _ d b n hx _).2, dif_pos (show 2 < Grid.rank from by decide)]
  rfl

/-- A sum over the first and the last of three axes is a sum over pairs. -/
theorem sum_outer (h : (⟨3, ![2, 128, 8192]⟩ : Shape).ReducesTo [0, 2] ⟨1, ![128]⟩) (v : (⟨3, ![2, 128, 8192]⟩ : Shape).Idx → EReal)
    (init : EReal) (o : Fin 128) :
    Ideal.hostReduceAdd h v init (ix1 o) = init + ∑ i : Fin 2 × Fin 8192, v (ix3 i.1 o i.2) := by
  unfold Ideal.hostReduceAdd
  refine congrArg (init + ·) (Finset.sum_filter_eq_sum_of_fiber _ (fun k : Fin 2 × Fin 8192 => ix3 k.1 o k.2)
    (fun a b e => Prod.ext (congrFun e 0) (congrFun e 2)) (fun i => ?_) v)
  constructor
  · intro e
    refine ⟨(i 0, i 2), ?_⟩
    funext a
    apply Fin.ext
    match a with
    | ⟨0, _⟩ => rfl
    | ⟨1, _⟩ => exact (congrArg Fin.val (congrFun e ⟨0, by decide⟩)).symm
    | ⟨2, _⟩ => rfl
  · rintro ⟨k, rfl⟩
    funext b
    apply Fin.ext
    match b with
    | ⟨0, _⟩ => rfl

end Cert.Proof
-- ==== Proof.RefHidden.lean ====
/- What the reference computes up to its first layer: the squared distances, the three nearest points by rank, their
   weights, the blend of their features, and the layer. -/
module

public import proofs.«01_k».proof.Proof.Gen.ReferenceIdeal.Read
public import proofs.«01_k».proof.Proof.Sorted
public import Idealize.ShloMosaic.Lib.Pointwise

@[expose] public section

set_option maxRecDepth 16384

noncomputable section

namespace Cert.ReferenceIdeal.Hidden

open Cert.ReferenceIdeal Cert.ReferenceIdeal.Gen Cert.ReferenceIdeal.Read Idealize.ShloMosaic Cert.Proof
open scoped BigOperators

/-- The distances from a point to all the known points of its batch. -/
def far (x0 : S2x8192x3.Idx → EReal) (x1 : S2x2048x3.Idx → EReal) (b : Fin 2) (n : Fin 8192) (m : Fin 2048) : EReal :=
  gap (fun a => x0 (ix3 b n a)) fun a => x1 (ix3 b m a)

/-- The reference's squared distance. -/
theorem distance_apply (x0 : S2x8192x3.Idx → EReal) (x1 : S2x2048x3.Idx → EReal) (b : Fin 2) (n : Fin 8192) (m : Fin 2048) :
    val_main_v6 (F := Ideal) x0 x1 (ix3 b n m) = far x0 x1 b n m := by
  unfold far gap
  pointwise [val_main_v6, val_main_v5, val_main_v4, val_main_v3, val_main_v2, val_main_v1, val_main_v0, val_main_cst]
  rw [Fin.sum_univ_three]

/-- Its negation. -/
theorem negated_apply (x0 : S2x8192x3.Idx → EReal) (x1 : S2x2048x3.Idx → EReal) (b : Fin 2) (n : Fin 8192) (m : Fin 2048) :
    val_main_v7 (F := Ideal) x0 x1 (ix3 b n m) = -(far x0 x1 b n m) :=
  congrArg Neg.neg (distance_apply x0 x1 b n m)

/-- The greatest negated distances are those of the first three ranks. -/
theorem values_apply (x0 : S2x8192x3.Idx → EReal) (x1 : S2x2048x3.Idx → EReal) (b : Fin 2) (n : Fin 8192) (k : Fin 3) :
    val_main_values (F := Ideal) x0 x1 (ix3 b n k)
      = -(far x0 x1 b n (ranked (far x0 x1 b n) ⟨k.val, k.isLt.trans_le (by decide)⟩)) :=
  top_value _ (far x0 x1 b n) b n (negated_apply x0 x1 b n) (by decide) _ k

/-- Their places are the points of the first three ranks. -/
theorem indices_apply (x0 : S2x8192x3.Idx → EReal) (x1 : S2x2048x3.Idx → EReal) (b : Fin 2) (n : Fin 8192) (k : Fin 3) :
    val_main_indices (F := Ideal) x0 x1 (ix3 b n k)
      = BitVec.ofNat 32 (ranked (far x0 x1 b n) ⟨k.val, k.isLt.trans_le (by decide)⟩).val :=
  top_place _ (far x0 x1 b n) b n (negated_apply x0 x1 b n) (by decide) _ k

/-- The inverse distance of a neighbour, from its negated squared distance. -/
theorem inverse_apply (x0 : S2x8192x3.Idx → EReal) (x1 : S2x2048x3.Idx → EReal) (b : Fin 2) (n : Fin 8192) (k : Fin 3) :
    val_main_v15 (F := Ideal) x0 x1 (ix3 b n k) = inverse (-(val_main_values (F := Ideal) x0 x1 (ix3 b n k))) := by
  unfold inverse tiny
  pointwise [val_main_v15, val_main_v14, val_main_v13, val_main_v12, val_main_v11, val_main_v10, val_main_v9, val_main_v8,
    val_main_cst_0, val_main_cst_1, val_main_cst_2]

/-- The weight of a neighbour, from the inverse distances of the three. -/
theorem weight_apply (x0 : S2x8192x3.Idx → EReal) (x1 : S2x2048x3.Idx → EReal) (b : Fin 2) (n : Fin 8192) (k : Fin 3) :
    val_main_v19 (F := Ideal) x0 x1 (ix3 b n k) = Ideal.div (val_main_v15 (F := Ideal) x0 x1 (ix3 b n k))
      (val_main_v15 (F := Ideal) x0 x1 (ix3 b n 0) + val_main_v15 (F := Ideal) x0 x1 (ix3 b n 1)
        + val_main_v15 (F := Ideal) x0 x1 (ix3 b n 2)) := by
  pointwise [val_main_v19, val_main_v18, val_main_v17, val_main_v16, val_main_cst_3]
  rw [Fin.sum_univ_three]

/-- The place of a neighbour as the gather reads it: its number, which is not negative. -/
theorem place_apply (x0 : S2x8192x3.Idx → EReal) (x1 : S2x2048x3.Idx → EReal) (b : Fin 2) (n : Fin 8192) (k : Fin 3) :
    val_main_v26 (F := Ideal) x0 x1 (ix4 b n k 0)
      = BitVec.ofNat 32 (ranked (far x0 x1 b n) ⟨k.val, k.isLt.trans_le (by decide)⟩).val := by
  have e : val_main_v26 (F := Ideal) x0 x1 (ix4 b n k 0)
      = Scalar.select (IntOp.cmpi .slt (val_main_indices (F := Ideal) x0 x1 (ix3 b n k)) 0#32)
          (IntOp.addi (val_main_indices (F := Ideal) x0 x1 (ix3 b n k)) 2048#32)
          (val_main_indices (F := Ideal) x0 x1 (ix3 b n k)) := by
    pointwise [val_main_v26, val_main_v25, val_main_v24, val_main_v23, val_main_v22, val_main_v21, val_main_c, val_main_c_4]
  rw [e, indices_apply]
  generalize ranked (far x0 x1 b n) ⟨k.val, k.isLt.trans_le (by decide)⟩ = r
  have h : (BitVec.ofNat 32 r.val).slt 0#32 = false := by
    have hr := r.isLt
    rw [BitVec.slt_eq_decide, decide_eq_false_iff_not, BitVec.toInt_eq_toNat_of_lt]
    · rw [BitVec.toNat_ofNat]; exact not_lt.mpr (Int.natCast_nonneg _)
    · rw [BitVec.toNat_ofNat]; omega
  have c : IntOp.cmpi .slt (BitVec.ofNat 32 r.val) 0#32 = 0#1 := by
    show BitVec.ofBool ((BitVec.ofNat 32 r.val).slt 0#32) = 0#1
    rw [h]; rfl
  rw [c]
  rfl

/-- The gather, at a place whose index word is the number of a point: that point's features. -/
theorem gather_apply (x : S2x2048x128.Idx → EReal) (idx : IVec S2x8192x3x1 32) (b : Fin 2) (n : Fin 8192) (k : Fin 3) (c : Fin 128)
    (r : Fin 2048) (h : idx (ix4 b n k 0) = BitVec.ofNat 32 r.val) :
    Host.gather gather_S2x2048x128_S2x8192x3x1_S2x8192x3x128_3_1_0_0_1_3_11128 x idx (ix4 b n k c) = x (ix3 b r c) := by
  unfold Host.gather
  refine congrArg x (funext fun a => Fin.ext ?_)
  have hs : gather_S2x2048x128_S2x8192x3x1_S2x8192x3x128_3_1_0_0_1_3_11128.siIdx (ix4 b n k c) ⟨0, by decide⟩ = ix4 b n k 0 := by
    funext a
    match a with
    | ⟨0, _⟩ => rfl
    | ⟨1, _⟩ => rfl
    | ⟨2, _⟩ => rfl
    | ⟨3, _⟩ => rfl
  match a with
  | ⟨0, _⟩ =>
    show 0 + b.val + 0 = b.val
    omega
  | ⟨1, _⟩ =>
    show min (idx (gather_S2x2048x128_S2x8192x3x1_S2x8192x3x128_3_1_0_0_1_3_11128.siIdx (ix4 b n k c) ⟨0, by decide⟩)).toInt.toNat
      (2048 - 1) + 0 + 0 = r.val
    have hr := r.isLt
    rw [hs, h, BitVec.toInt_eq_toNat_of_lt (by rw [BitVec.toNat_ofNat]; omega), BitVec.toNat_ofNat, Int.toNat_natCast]
    omega
  | ⟨2, _⟩ =>
    show 0 + 0 + c.val = c.val
    omega

/-- The features of a neighbour. -/
theorem neighbour_apply (x0 : S2x8192x3.Idx → EReal) (x1 : S2x2048x3.Idx → EReal) (x3 : S2x128x2048.Idx → EReal) (b : Fin 2)
    (n : Fin 8192) (k : Fin 3) (c : Fin 128) :
    val_main_v27 (F := Ideal) x0 x1 x3 (ix4 b n k c)
      = x3 (ix3 b c (ranked (far x0 x1 b n) ⟨k.val, k.isLt.trans_le (by decide)⟩)) := by
  unfold val_main_v27
  rw [gather_apply _ _ b n k c _ (place_apply x0 x1 b n k)]
  pointwise [val_main_v20]

/-- The blend of the features of the three neighbours. -/
theorem blend_apply (x0 : S2x8192x3.Idx → EReal) (x1 : S2x2048x3.Idx → EReal) (x3 : S2x128x2048.Idx → EReal) (b : Fin 2)
    (n : Fin 8192) (c : Fin 128) :
    val_main_v31 (F := Ideal) x0 x1 x3 (ix3 b n c) = blendRanked (far x0 x1 b n) fun m => x3 (ix3 b c m) := by
  have e : val_main_v31 (F := Ideal) x0 x1 x3 (ix3 b n c)
      = ∑ k : Fin 3, val_main_v27 (F := Ideal) x0 x1 x3 (ix4 b n k c) * val_main_v19 (F := Ideal) x0 x1 (ix3 b n k) := by
    pointwise [val_main_v31, val_main_v30, val_main_v29, val_main_v28, val_main_cst_5]
  rw [e, Fin.sum_univ_three]
  simp only [neighbour_apply, weight_apply, inverse_apply, values_apply, neg_neg]
  rfl

/-- The blended features and the point's own, one above the other: a blended row. -/
theorem upper_apply (x0 : S2x8192x3.Idx → EReal) (x1 : S2x2048x3.Idx → EReal) (x2 : S2x64x8192.Idx → EReal)
    (x3 : S2x128x2048.Idx → EReal) (b : Fin 2) (n : Fin 8192) (c : Fin 128) :
    val_main_v33 (F := Ideal) x0 x1 x2 x3 (ix3 b ⟨c.val, by omega⟩ n)
      = blendRanked (far x0 x1 b n) fun m => x3 (ix3 b c m) := by
  unfold val_main_v33
  refine (concatenate_pair_apply_left (t := S2x192x8192) (s₁ := S2x128x8192) (s₂ := S2x64x8192) (1 : Fin 3) _ _ _ _ rfl
    (ix3 b c n) (fun a => by
      match a with
      | ⟨0, _⟩ => rfl
      | ⟨1, _⟩ => rfl
      | ⟨2, _⟩ => rfl)).trans ?_
  rw [← blend_apply]
  pointwise [val_main_v32]

/-- A row of the point's own. -/
theorem lower_apply (x0 : S2x8192x3.Idx → EReal) (x1 : S2x2048x3.Idx → EReal) (x2 : S2x64x8192.Idx → EReal)
    (x3 : S2x128x2048.Idx → EReal) (b : Fin 2) (n : Fin 8192) (c : Fin 64) :
    val_main_v33 (F := Ideal) x0 x1 x2 x3 (ix3 b ⟨128 + c.val, by omega⟩ n) = x2 (ix3 b c n) := by
  unfold val_main_v33
  exact concatenate_pair_apply_right (t := S2x192x8192) (s₁ := S2x128x8192) (s₂ := S2x64x8192) (1 : Fin 3) _ _ _ _ rfl rfl
    (ix3 b c n) (fun a ha => by
    match a with
    | ⟨0, _⟩ => rfl
    | ⟨1, _⟩ => exact absurd rfl ha
    | ⟨2, _⟩ => rfl) (by show c.val + 128 = 128 + c.val; omega)

/-- The first layer of the reference at a place. -/
def layerOf (x0 : S2x8192x3.Idx → EReal) (x1 : S2x2048x3.Idx → EReal) (x2 : S2x64x8192.Idx → EReal)
    (x3 : S2x128x2048.Idx → EReal) (x4 : S128x192.Idx → EReal) (b : Fin 2) (n : Fin 8192) (o : Fin 128) : EReal :=
  layer (fun c => x4 (ix2 o c)) (fun c => blendRanked (far x0 x1 b n) fun m => x3 (ix3 b c m)) fun c => x2 (ix3 b c n)

/-- The reference's first layer at a place is that. -/
theorem layer_apply (x0 : S2x8192x3.Idx → EReal) (x1 : S2x2048x3.Idx → EReal) (x2 : S2x64x8192.Idx → EReal)
    (x3 : S2x128x2048.Idx → EReal) (x4 : S128x192.Idx → EReal) (b : Fin 2) (o : Fin 128) (n : Fin 8192) :
    val_main_v35 (F := Ideal) x0 x1 x2 x3 x4 (ix3 b o n) = layerOf x0 x1 x2 x3 x4 b n o := by
  have e : val_main_v35 (F := Ideal) x0 x1 x2 x3 x4 (ix3 b o n)
      = ∑ c : Fin 192, val_main_v33 (F := Ideal) x0 x1 x2 x3 (ix3 b c n) * x4 (ix2 o c) := by
    pointwise [val_main_v35, val_main_v34]
  rw [e, show (∑ c : Fin 192, val_main_v33 (F := Ideal) x0 x1 x2 x3 (ix3 b c n) * x4 (ix2 o c)) = _ from
    Fin.sum_univ_add (a := 128) (b := 64) fun c => val_main_v33 (F := Ideal) x0 x1 x2 x3 (ix3 b c n) * x4 (ix2 o c)]
  unfold layerOf layer
  refine congrArg₂ (· + ·) (Finset.sum_congr rfl fun c _ => ?_) (Finset.sum_congr rfl fun c _ => ?_)
  · exact (congrArg (· * _) (upper_apply x0 x1 x2 x3 b n c)).trans (mul_comm _ _)
  · exact (congrArg (· * _) (lower_apply x0 x1 x2 x3 b n c)).trans (mul_comm _ _)

end Cert.ReferenceIdeal.Hidden
-- ==== Proof.Apart.lean ====
/- What the precondition says of the points: the four nearest distances of a point are apart, so the three nearest are
   the same whether they are found by rank or by striking out. -/
module

public import proofs.«01_k».proof.Pre_nearest_four_apart
public import proofs.«01_k».proof.Proof.Gen.Pre_nearest_four_apart
public import proofs.«01_k».proof.Proof.RefHidden

@[expose] public section

set_option maxRecDepth 16384

noncomputable section

namespace Cert.Pre_nearest_four_apart.Points

open Cert.Pre_nearest_four_apart Idealize.ShloMosaic Cert.Proof
open Cert.ReferenceIdeal.Hidden (far)
open scoped BigOperators

variable [Facts]
open Facts

/-- The negated squared distances that the predicate sorts. -/
def negated (x0 : FVec Ideal S2x8192x3 .f32) (x1 : FVec Ideal S2x2048x3 .f32) : FVec Ideal S2x8192x2048 .f32 :=
  let v4 : FVec Ideal S2x8192x2048x3 .f32 := subf
    (broadcastInDim S2x8192x2048x3 ![0, 1, 2, 3] bcast_S2x8192x1x3_S2x8192x2048x3_0_1_2_3
      (broadcastInDim S2x8192x1x3 ![0, 1, 3] bcast_S2x8192x3_S2x8192x1x3_0_1_3 x0))
    (broadcastInDim S2x8192x2048x3 ![0, 1, 2, 3] bcast_S2x1x2048x3_S2x8192x2048x3_0_1_2_3
      (broadcastInDim S2x1x2048x3 ![0, 2, 3] bcast_S2x2048x3_S2x1x2048x3_0_2_3 x1))
  Host.negf (Host.reduceAdd (mulf v4 v4) (constant S_ .f32 0x00000000#32) reducesTo_S2x8192x2048x3_S2x8192x2048_d3 h_S_)

/-- They are the negated distances. -/
theorem negated_apply (x0 : FVec Ideal S2x8192x3 .f32) (x1 : FVec Ideal S2x2048x3 .f32) (b : Fin 2) (n : Fin 8192) (m : Fin 2048) :
    negated x0 x1 (ix3 b n m) = -(far x0 x1 b n m) := by
  unfold far gap
  pointwise [negated]
  rw [Fin.sum_univ_three]

/-- The four greatest of them. -/
def greatest (x0 : FVec Ideal S2x8192x3 .f32) (x1 : FVec Ideal S2x2048x3 .f32) : FVec Ideal S2x8192x4 .f32 :=
  (Host.topK S2x8192x4 2 (FloatOps.cmpfTotal .gt) (negated x0 x1) sliceFits_S2x8192x2048_S2x8192x4).1

/-- They are the negated distances of the first four ranks. -/
theorem greatest_apply (x0 : FVec Ideal S2x8192x3 .f32) (x1 : FVec Ideal S2x2048x3 .f32) (b : Fin 2) (n : Fin 8192) (k : Fin 4) :
    greatest x0 x1 (ix3 b n k) = -(far x0 x1 b n (ranked (far x0 x1 b n) ⟨k.val, k.isLt.trans_le (by decide)⟩)) :=
  top_value _ (far x0 x1 b n) b n (negated_apply x0 x1 b n) (by decide) _ k

/-- Three of the four against the next one, compared: the test at a place says that the next one is less. -/
theorem less_of_compared (v : FVec Ideal S2x8192x4 .f32) (b : Fin 2) (n : Fin 8192) (k : Fin 3)
    (h : cmpf .ogt (extractStridedSlice S2x8192x3 ![0, 0, 0] v slices_S2x8192x4_S2x8192x3_0_0_0)
      (extractStridedSlice S2x8192x3 ![0, 0, 1] v slices_S2x8192x4_S2x8192x3_0_0_1) (ix3 b n k) = 1#1) :
    v (ix3 b n k.succ) < v (ix3 b n k.castSucc) := by
  have e : cmpf .ogt (extractStridedSlice S2x8192x3 ![0, 0, 0] v slices_S2x8192x4_S2x8192x3_0_0_0)
      (extractStridedSlice S2x8192x3 ![0, 0, 1] v slices_S2x8192x4_S2x8192x3_0_0_1) (ix3 b n k)
      = BitVec.ofBool (decide (v (ix3 b n k.castSucc) > v (ix3 b n k.succ))) := by
    have i : k.succ = ⟨1 + k.val, by omega⟩ := Fin.ext (Nat.add_comm _ _)
    rw [i]
    pointwise
    rfl
  rw [e] at h
  by_contra hn
  rw [decide_eq_false hn] at h
  exact absurd h (by decide)

/-- Under the predicate the distances of consecutive ranks among the first four increase. -/
theorem increasing (x0 : FVec Ideal S2x8192x3 .f32) (x1 : FVec Ideal S2x2048x3 .f32) (x2 : FVec Ideal S2x64x8192 .f32)
    (x3 : FVec Ideal S2x128x2048 .f32) (x4 : FVec Ideal S128x192 .f32) (x5 x6 : FVec Ideal S128 .f32) (x7 : FVec Ideal S5x128 .f32)
    (x8 : FVec Ideal S5 .f32) (x9 : FVec Ideal S128x5 .f32) (x10 : FVec Ideal S128 .f32)
    (h : fn (F := Ideal) x0 x1 x2 x3 x4 x5 x6 x7 x8 x9 x10 = fun _ => 1#1) (b : Fin 2) (n : Fin 8192) (k : Fin 3) :
    far x0 x1 b n (ranked (far x0 x1 b n) ⟨k.val, k.isLt.trans_le (by decide)⟩)
      < far x0 x1 b n (ranked (far x0 x1 b n) ⟨k.val + 1, by omega⟩) := by
  have l := less_of_compared (greatest x0 x1) b n k (congrFun h (ix3 b n k))
  rw [greatest_apply, greatest_apply] at l
  exact EReal.neg_lt_neg_iff.mp l

/-- So the three nearest points are the first three by rank. -/
theorem apart (x0 : FVec Ideal S2x8192x3 .f32) (x1 : FVec Ideal S2x2048x3 .f32) (x2 : FVec Ideal S2x64x8192 .f32)
    (x3 : FVec Ideal S2x128x2048 .f32) (x4 : FVec Ideal S128x192 .f32) (x5 x6 : FVec Ideal S128 .f32) (x7 : FVec Ideal S5x128 .f32)
    (x8 : FVec Ideal S5 .f32) (x9 : FVec Ideal S128x5 .f32) (x10 : FVec Ideal S128 .f32)
    (h : fn (F := Ideal) x0 x1 x2 x3 x4 x5 x6 x7 x8 x9 x10 = fun _ => 1#1) (b : Fin 2) (n : Fin 8192) :
    Apart (far x0 x1 b n) :=
  have l := increasing x0 x1 x2 x3 x4 x5 x6 x7 x8 x9 x10 h b n
  nearest_ranked (far x0 x1 b n) 0 1 2 3 rfl rfl rfl rfl (l 0) (l 1) (l 2)

end Cert.Pre_nearest_four_apart.Points

end
-- ==== Proof.KernelRun.lean ====
/- The run of the kernel with its result: what stands in the result array when the program ends, and the arguments
   unchanged. The launch is set up as for the frame. -/
module

public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution from a launch memory ends, with the result array as the second pass leaves it and every argument as
    launched. -/
theorem run : θ_run defs (onTc (τ := τ) (main (F := F))) ⟨m, fun _ => 0, ρ⟩ (fun r => ∀ c : Dev nD,
      r.2.mem ((c.tc : Thread nD τ).loc main_v10) = W11 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c =>
      ⟨h c _ (mem_uc main_v10 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.Run

end
-- ==== Proof.PassOne.lean ====
/- What the first pass computes from its blocks, element by element: the squared distances, the three least of them and
   the marks of where they stand, the blended features, and the first layer. -/
module

public import proofs.«01_k».proof.Proof.Net
public import proofs.«01_k».proof.Proof.Gen.KernelIdeal.Skeleton
public import Idealize.ShloMosaic.Lib.Pointwise

@[expose] public section

set_option maxRecDepth 16384

noncomputable section

namespace Cert.KernelIdeal.PassOne

open Cert.KernelIdeal Cert.KernelIdeal.Gen Idealize.ShloMosaic Cert.Proof
open scoped BigOperators

/-- The pattern of positive infinity denotes it. -/
theorem ofBits_inf : Ideal.ofBits .f32 0x7F800000#32 = ⊤ := by
  show Ideal.ieee 8 23 0x7F800000#32 = ⊤
  unfold Ideal.ieee
  simp

/-- A choice by the mark of an equation is a choice by the equation. -/
theorem select_eq {p : Prop} [Decidable p] {α : Type} (a b : α) :
    Scalar.select (BitVec.ofBool (decide p)) a b = if p then a else b := by
  by_cases h : p <;> simp [Scalar.select, h]

variable (x0 : Vec Ideal S1x4096x3 .f32) (x1 : Vec Ideal S1x8x2048 .f32) (x2 : Vec Ideal S1x128x2048 .f32)
  (x3 : Vec Ideal S1x64x4096 .f32) (x4 : Vec Ideal S128x192 .f32)

/-- The squared distances of the point of row `r` to the known points. -/
def dists (r : Fin 4096) (m : Fin 2048) : EReal := gap (fun a => x0 (ix3 0 r a)) fun a => x1 (ix3 0 ⟨a.val, by omega⟩ m)

/-- The distances are the distances. -/
theorem pay6_apply (r : Fin 4096) (m : Fin 2048) : k0_pay6 (F := Ideal) x0 x1 (ix2 r m) = dists x0 x1 r m := by
  pointwise [k0_pay6]
  rfl

/-- The first least value. -/
theorem pay7_apply (r : Fin 4096) (z : Fin 1) : k0_pay7 (F := Ideal) x0 x1 (ix2 r z) = least (dists x0 x1 r) := by
  pointwise [k0_pay7]
  simp only [pay6_apply, ofBits_inf]
  rfl

/-- The first mark. -/
theorem pay8_apply (r : Fin 4096) (m : Fin 2048) : k0_pay8 (F := Ideal) x0 x1 (ix2 r m)
    = BitVec.ofBool (decide (dists x0 x1 r m = least (dists x0 x1 r))) := by
  pointwise [k0_pay8]
  simp only [pay6_apply, pay7_apply]

/-- The distances after the first strike. -/
theorem pay9_apply (r : Fin 4096) (m : Fin 2048) :
    k0_pay9 (F := Ideal) x0 x1 (ix2 r m) = strike (dists x0 x1 r) m := by
  pointwise [k0_pay9]
  simp only [pay6_apply, pay8_apply, ofBits_inf, select_eq]
  rfl

/-- The second least value. -/
theorem pay10_apply (r : Fin 4096) (z : Fin 1) :
    k0_pay10 (F := Ideal) x0 x1 (ix2 r z) = least (strike (dists x0 x1 r)) := by
  pointwise [k0_pay10]
  simp only [pay9_apply, ofBits_inf]
  rfl

/-- The second mark. -/
theorem pay11_apply (r : Fin 4096) (m : Fin 2048) : k0_pay11 (F := Ideal) x0 x1 (ix2 r m)
    = BitVec.ofBool (decide (strike (dists x0 x1 r) m = least (strike (dists x0 x1 r)))) := by
  pointwise [k0_pay11]
  simp only [pay9_apply, pay10_apply]

/-- The distances after the second strike. -/
theorem pay12_apply (r : Fin 4096) (m : Fin 2048) :
    k0_pay12 (F := Ideal) x0 x1 (ix2 r m) = strike (strike (dists x0 x1 r)) m := by
  pointwise [k0_pay12]
  simp only [pay9_apply, pay11_apply, ofBits_inf, select_eq]
  rfl

/-- The third least value. -/
theorem pay13_apply (r : Fin 4096) (z : Fin 1) :
    k0_pay13 (F := Ideal) x0 x1 (ix2 r z) = least (strike (strike (dists x0 x1 r))) := by
  pointwise [k0_pay13]
  simp only [pay12_apply, ofBits_inf]
  rfl

/-- The third mark. -/
theorem pay14_apply (r : Fin 4096) (m : Fin 2048) : k0_pay14 (F := Ideal) x0 x1 (ix2 r m)
    = BitVec.ofBool (decide (strike (strike (dists x0 x1 r)) m = least (strike (strike (dists x0 x1 r))))) := by
  pointwise [k0_pay14]
  simp only [pay12_apply, pay13_apply]

/-- A column of squared distances, ready to be inverted. -/
def roots (v : FVec Ideal S4096x1 .f32) : FVec Ideal S4096x1 .f32 :=
  addf (sqrt (maximumf v (broadcast S4096x1 (Scalar.ofBits .f32 0x00000000#32))))
    (broadcast S4096x1 (Scalar.ofBits .f32 0x322BCC77#32))

/-- The first nearest distances, ready to be inverted, are of this form. -/
theorem pay15_eq : k0_pay15 (F := Ideal) x0 x1 = roots (k0_pay7 (F := Ideal) x0 x1) := by
  unfold k0_pay15 roots
  rfl

/-- A distance ready to be inverted. -/
theorem roots_apply (v : FVec Ideal S4096x1 .f32) (r : Fin 4096) (z : Fin 1) :
    roots v (ix2 r z) = Ideal.sqrt (max (v (ix2 r z)) 0) + tiny := by
  pointwise [roots]
  rfl

/-- The first nearest distance, ready to be inverted. -/
theorem pay15_apply (r : Fin 4096) (z : Fin 1) : k0_pay15 (F := Ideal) x0 x1 (ix2 r z)
    = Ideal.sqrt (max (least (dists x0 x1 r)) 0) + tiny := by
  rw [pay15_eq, roots_apply, pay7_apply]

/-! ## The blend and the first layer -/

/-- The inverses of a column. -/
def inverses (v : FVec Ideal S4096x1 .f32) : FVec Ideal S4096x1 .f32 :=
  divf (broadcast S4096x1 (Scalar.ofBits .f32 0x3F800000#32)) v

/-- A column of weights spread over the known points. -/
def spreadOut (v : FVec Ideal S4096x1 .f32) : FVec Ideal S4096x2048 .f32 :=
  broadcastTo S4096x2048 (shapeCast S4096x1 v shapeCasts_S4096x1_S4096x1) broadcasts_S4096x1_S4096x2048

/-- The rows of weights from the marks and the inverse distances. -/
def weights (m1 m2 m3 : IVec S4096x2048 1) (r1 r2 r3 : FVec Ideal S4096x1 .f32) : FVec Ideal S4096x2048 .f32 :=
  select m1 (spreadOut (divf r1 (addf (addf r1 r2) r3)))
    (select m2 (spreadOut (divf r2 (addf (addf r1 r2) r3)))
      (select m3 (spreadOut (divf r3 (addf (addf r1 r2) r3)))
        (broadcast S4096x2048 (Scalar.ofBits .f32 0x00000000#32))))

/-- The blended features from the rows of weights. -/
def blends (f : Vec Ideal S1x128x2048 .f32) (w : FVec Ideal S4096x2048 .f32) : FVec Ideal S128x4096 .f32 :=
  matmul dot_S128x2048_S4096x2048_S128x4096_1_1_0_0_n_n none
    (shapeCast S128x2048 f shapeCasts_S1x128x2048_S128x2048 : FVec Ideal S128x2048 .f32) w
    (constant S128x4096 .f32 0x00000000#32)

/-- The first half of the first layer is a product with the blended features. -/
theorem pay16_eq (m1 m2 m3 : IVec S4096x2048 1) (v2 v3 c1 : FVec Ideal S4096x1 .f32) :
    k0_pay16 (F := Ideal) m1 v2 m2 v3 m3 c1 x2 x4
      = matmul dot_S128x128_S128x4096_S128x4096_1_0_0_1_n_n none
          (extractStridedSlice S128x128 ![0, 0] x4 slices_S128x192_o0_0_S128x128 : FVec Ideal S128x128 .f32)
          (blends x2 (weights m1 m2 m3 (inverses c1) (inverses (roots v2))
            (inverses (roots v3))))
          (constant S128x4096 .f32 0x00000000#32) := rfl

/-- An inverse. -/
theorem inverses_apply (v : FVec Ideal S4096x1 .f32) (r : Fin 4096) (z : Fin 1) :
    inverses v (ix2 r z) = Ideal.div 1 (v (ix2 r z)) := by
  pointwise [inverses]

/-- A weight spread out. -/
theorem spreadOut_apply (v : FVec Ideal S4096x1 .f32) (r : Fin 4096) (m : Fin 2048) :
    spreadOut v (ix2 r m) = v (ix2 r 0) := by
  pointwise [spreadOut]

/-- A row of weights. -/
theorem weights_apply (m1 m2 m3 : IVec S4096x2048 1) (r1 r2 r3 : FVec Ideal S4096x1 .f32) (r : Fin 4096)
    (m : Fin 2048) : weights m1 m2 m3 r1 r2 r3 (ix2 r m)
      = Scalar.select (m1 (ix2 r m)) (Ideal.div (r1 (ix2 r 0)) (r1 (ix2 r 0) + r2 (ix2 r 0) + r3 (ix2 r 0)))
        (Scalar.select (m2 (ix2 r m)) (Ideal.div (r2 (ix2 r 0)) (r1 (ix2 r 0) + r2 (ix2 r 0) + r3 (ix2 r 0)))
          (Scalar.select (m3 (ix2 r m)) (Ideal.div (r3 (ix2 r 0)) (r1 (ix2 r 0) + r2 (ix2 r 0) + r3 (ix2 r 0))) 0)) := by
  pointwise [weights]
  simp only [spreadOut_apply]
  pointwise

/-- A blended feature. -/
theorem blends_apply (w : FVec Ideal S4096x2048 .f32) (c : Fin 128) (r : Fin 4096) :
    blends x2 w (ix2 c r) = ∑ m, x2 (ix3 0 c m) * w (ix2 r m) := by
  pointwise [blends]

/-- The first half of the first layer, at an element. -/
theorem pay16_apply (o : Fin 128) (r : Fin 4096) :
    k0_pay16 (F := Ideal) (k0_pay8 x0 x1) (k0_pay10 x0 x1) (k0_pay11 x0 x1) (k0_pay13 x0 x1) (k0_pay14 x0 x1)
        (k0_pay15 x0 x1) x2 x4 (ix2 o r)
      = ∑ c : Fin 128, x4 (ix2 o ⟨c.val, by omega⟩) * blendStruck (dists x0 x1 r) fun m => x2 (ix3 0 c m) := by
  rw [pay16_eq]
  pointwise
  refine Finset.sum_congr rfl fun c _ => ?_
  congr 1
  rw [blends_apply]
  unfold blendStruck
  refine Finset.sum_congr rfl fun m _ => ?_
  congr 1
  rw [weights_apply, inverses_apply, inverses_apply, inverses_apply, roots_apply, roots_apply, pay15_apply, pay10_apply,
    pay13_apply, pay8_apply, pay11_apply, pay14_apply, select_eq, select_eq, select_eq]
  rfl

/-- The second half of the first layer, at an element. -/
theorem pay17_apply (o : Fin 128) (r : Fin 4096) : k0_pay17 (F := Ideal) x3 x4 (ix2 o r)
    = ∑ c : Fin 64, x4 (ix2 o ⟨128 + c.val, by omega⟩) * x3 (ix3 0 c r) := by
  pointwise [k0_pay17]

/-- The block of the first layer that the first pass makes of its blocks. -/
def hidden (o : Fin 128) (r : Fin 4096) : EReal :=
  layer (fun c => x4 (ix2 o c)) (fun c => blendStruck (dists x0 x1 r) fun m => x2 (ix3 0 c m)) fun c => x3 (ix3 0 c r)

/-- The two halves that the first pass adds. -/
abbrev half₁ : FVec Ideal S128x4096 .f32 :=
  k0_pay16 (F := Ideal) (k0_pay8 x0 x1) (k0_pay10 x0 x1) (k0_pay11 x0 x1) (k0_pay13 x0 x1) (k0_pay14 x0 x1)
    (k0_pay15 x0 x1) x2 x4

/-- The first layer, at an element. -/
theorem pay1_apply (o : Fin 128) (r : Fin 4096) :
    k0_pay1 (F := Ideal) (half₁ x0 x1 x2 x4) (k0_pay17 x3 x4) (ix2 o r) = hidden x0 x1 x2 x3 x4 o r := by
  show half₁ x0 x1 x2 x4 (ix2 o r) + k0_pay17 (F := Ideal) x3 x4 (ix2 o r) = _
  rw [half₁, pay16_apply, pay17_apply]
  rfl

/-- The block that the first pass stores of the first layer. -/
theorem pay2_apply (z : Fin 1) (o : Fin 128) (r : Fin 4096) :
    k0_pay2 (F := Ideal) (half₁ x0 x1 x2 x4) (k0_pay17 x3 x4) (ix3 z o r) = hidden x0 x1 x2 x3 x4 o r := by
  pointwise [k0_pay2]
  exact pay1_apply x0 x1 x2 x3 x4 o r

/-- The sums of the channels, after a block. -/
theorem pay4_apply (s : Vec Ideal S128x1 .f32) (o : Fin 128) (z : Fin 1) :
    k0_pay4 (F := Ideal) (half₁ x0 x1 x2 x4) (k0_pay17 x3 x4) s (ix2 o z)
      = s (ix2 o z) + ∑ r, hidden x0 x1 x2 x3 x4 o r := by
  pointwise [k0_pay4]
  simp only [pay1_apply]

/-- The sums of the squares of the channels, after a block. -/
theorem pay5_apply (s : Vec Ideal S128x1 .f32) (o : Fin 128) (z : Fin 1) :
    k0_pay5 (F := Ideal) (half₁ x0 x1 x2 x4) (k0_pay17 x3 x4) s (ix2 o z)
      = s (ix2 o z) + ∑ r, hidden x0 x1 x2 x3 x4 o r * hidden x0 x1 x2 x3 x4 o r := by
  pointwise [k0_pay5]
  simp only [pay1_apply]

end Cert.KernelIdeal.PassOne
-- ==== Proof.PointOne.lean ====
/- What one grid point of the first pass leaves in its two result buffers: the block of the first layer, and the two
   columns of running sums. -/
module

public import proofs.«01_k».proof.Proof.PassOne
public import proofs.«01_k».proof.Proof.Gen.KernelIdeal.Frame
public import Idealize.ShloMosaic.Lib.Pipeline.Value
public import Idealize.ShloMosaic.Lib.Pipeline.ValueKit.Tiles
public import Idealize.ShloMosaic.Lib.Tactic

@[expose] public section

set_option maxRecDepth 16384

noncomputable section

namespace Cert.KernelIdeal.PointOne

open Cert.KernelIdeal Cert.KernelIdeal.Gen Idealize.ShloMosaic Idealize.ShloMosaic.TcCoe Idealize.SL.Sem
open Cert.KernelIdeal.PassOne
open scoped BigOperators

/-- Two zero offsets, as a function. -/
theorem zeros₂ : (![0, 0] : Fin 2 → Nat) = fun _ => 0 := funext fun a => by fin_cases a <;> rfl
/-- Three zero offsets, as a function. -/
theorem zeros₃ : (![0, 0, 0] : Fin 3 → Nat) = fun _ => 0 := funext fun a => by fin_cases a <;> rfl

/-- The two columns of the running sums. -/
abbrev col₀ : Rect S128x2 := Rect.unit ![0, 0] ![128, 1] inb_S128x2_S128x1_0_0
/-- The second column of the sums. -/
abbrev col₁ : Rect S128x2 := Rect.unit ![0, 1] ![128, 1] inb_S128x2_S128x1_0_1

/-- Where the first column's elements lie in the sums. -/
theorem idx_col₀ (o : Fin 128) : col₀.idx (ix2 o 0 : S128x1.Idx) = (ix2 o 0 : S128x2.Idx) := by
  funext a; apply Fin.ext; fin_cases a <;> simp [Rect.idx_unit_val, ix2]

/-- Where the second column's elements lie in the sums. -/
theorem idx_col₁ (o : Fin 128) : col₁.idx (ix2 o 0 : S128x1.Idx) = (ix2 o 1 : S128x2.Idx) := by
  funext a; apply Fin.ext; fin_cases a <;> simp [Rect.idx_unit_val, ix2]

/-- The first column does not meet the second. -/
theorem not_mem_col₁ (o : Fin 128) : (ix2 o 0 : S128x2.Idx) ∉ col₁.set := by
  rw [Rect.mem_set_unit]
  intro h
  have := (h 1).1
  simp [ix2] at this

/-- The second column lies outside the first. -/
theorem not_mem_col₀ (o : Fin 128) : (ix2 o 1 : S128x2.Idx) ∉ col₀.set := by
  rw [Rect.mem_set_unit]
  intro h
  have := (h 1).2
  simp [ix2] at this

section
variable {Val : EltTy → Type} [∀ e, Nonempty (Val e)] (X : col₀.shape.Idx → Val .f32) (Y : col₁.shape.Idx → Val .f32) (L : List (View.Piece Val S128x2 .f32))

/-- After the stores of both columns the first holds its own. -/
theorem canon_col₀ (o : Fin 128) : View.canon (⟨col₁, Y⟩ :: ⟨col₀, X⟩ :: L) (ix2 o 0) = X (ix2 o 0 : S128x1.Idx) := by
  have h := View.canon_cons_emb col₀ X L (ix2 o 0 : S128x1.Idx)
  rw [show col₀.emb (ix2 o 0 : S128x1.Idx) = (ix2 o 0 : S128x2.Idx) from idx_col₀ o] at h
  exact (View.canon_cons_of_not_mem ⟨col₁, Y⟩ (⟨col₀, X⟩ :: L) (not_mem_col₁ o)).trans h

/-- And the second its own. -/
theorem canon_col₁ (o : Fin 128) : View.canon (⟨col₁, Y⟩ :: L) (ix2 o 1) = Y (ix2 o 0 : S128x1.Idx) := by
  have h := View.canon_cons_emb col₁ Y L (ix2 o 0 : S128x1.Idx)
  rwa [show col₁.emb (ix2 o 0 : S128x1.Idx) = (ix2 o 1 : S128x2.Idx) from idx_col₁ o] at h

/-- The store of the first column leaves the second. -/
theorem canon_skip (o : Fin 128) : View.canon (⟨col₀, X⟩ :: L) (ix2 o 1) = View.canon L (ix2 o 1) :=
  View.canon_cons_of_not_mem ⟨col₀, X⟩ L (not_mem_col₀ o)
end

/-- The sums start at zero. -/
theorem zero_sums (o : Fin 128) (k : Fin 2) : k0_pay3 (F := Ideal) (ix2 o k) = 0 := by
  pointwise [k0_pay3]

section
variable (c : Dev nD) (i : grid0.Coords) (a2 : Memref sig .tc .vmem S1x4096x3 .f32) (h2 : a2.IsWhole)
    (a3 : Memref sig .tc .vmem S1x8x2048 .f32) (h3 : a3.IsWhole) (a4 : Memref sig .tc .vmem S1x128x2048 .f32) (h4 : a4.IsWhole)
    (a5 : Memref sig .tc .vmem S1x64x4096 .f32) (h5 : a5.IsWhole) (a6 : Memref sig .tc .vmem S128x192 .f32) (h6 : a6.IsWhole)
    (a7 : Memref sig .tc .vmem S1x128x4096 .f32) (h7 : a7.IsWhole) (a8 : Memref sig .tc .vmem S128x2 .f32) (h8 : a8.IsWhole)

/-- The block of the first layer, at the first point. -/
theorem first_block (hc : cond0_0 i)
    (x0 : Vec Ideal S1x4096x3 .f32) (x1 : Vec Ideal S1x8x2048 .f32) (x2 : Vec Ideal S1x128x2048 .f32)
    (x3 : Vec Ideal S1x64x4096 .f32) (x4 : Vec Ideal S128x192 .f32) :
    out0_A_5 (F := Ideal) c i a2 h2 a3 h3 a4 h4 a5 h5 a6 h6 a7 h7 a8 h8 hc x0 x1 x2 x3 x4 = k0_pay2 (half₁ x0 x1 x2 x4) (k0_pay17 x3 x4) := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_unit_zero (S := S1x128x4096) zeros₃]
  simp only [View.readAt_eq_ld, h2.read_unread, h3.read_unread, h4.read_unread, h5.read_unread, h6.read_unread, h8.read_unread,
    View.ld_unit_zero (S := S1x4096x3) zeros₃, View.ld_unit_zero (S := S1x8x2048) zeros₃,
    View.ld_unit_zero (S := S1x128x2048) zeros₃, View.ld_unit_zero (S := S1x64x4096) zeros₃,
    View.ld_unit_zero (S := S128x192) zeros₂, View.readCov_eq_canon']

/-- The running sums after the first point. -/
theorem first_col₀ (hc : cond0_0 i)
    (x0 : Vec Ideal S1x4096x3 .f32) (x1 : Vec Ideal S1x8x2048 .f32) (x2 : Vec Ideal S1x128x2048 .f32)
    (x3 : Vec Ideal S1x64x4096 .f32) (x4 : Vec Ideal S128x192 .f32) (o : Fin 128) :
    out0_A_6 (F := Ideal) c i a2 h2 a3 h3 a4 h4 a5 h5 a6 h6 a7 h7 a8 h8 hc x0 x1 x2 x3 x4 (ix2 o 0) = 0 + ∑ r, hidden x0 x1 x2 x3 x4 o r := by
  unfold out0_A_6
  rw [View.read_writes_eq_canon _ _ _ (cover0_A_6 c i a2 h2 a3 h3 a4 h4 a5 h5 a6 h6 a7 h7 a8 h8 hc x0 x1 x2 x3 x4)]
  unfold kernelRun0_A
  dsimp only
  sl_unfold_words
  refine (canon_col₀ _ _ _ o).trans ?_
  simp only [View.readAt_eq_ld, h2.read_unread, h3.read_unread, h4.read_unread, h5.read_unread, h6.read_unread, h8.read_unread,
    View.ld_unit_zero (S := S1x4096x3) zeros₃, View.ld_unit_zero (S := S1x8x2048) zeros₃,
    View.ld_unit_zero (S := S1x128x2048) zeros₃, View.ld_unit_zero (S := S1x64x4096) zeros₃,
    View.ld_unit_zero (S := S128x192) zeros₂, View.readCov_eq_canon']
  refine (pay4_apply x0 x1 x2 x3 x4 _ o 0).trans ?_
  rw [idx_col₀, View.canon_unit_zero (S := S128x2) zeros₂, zero_sums]

/-- The running sums of squares after the first point. -/
theorem first_col₁ (hc : cond0_0 i)
    (x0 : Vec Ideal S1x4096x3 .f32) (x1 : Vec Ideal S1x8x2048 .f32) (x2 : Vec Ideal S1x128x2048 .f32)
    (x3 : Vec Ideal S1x64x4096 .f32) (x4 : Vec Ideal S128x192 .f32) (o : Fin 128) :
    out0_A_6 (F := Ideal) c i a2 h2 a3 h3 a4 h4 a5 h5 a6 h6 a7 h7 a8 h8 hc x0 x1 x2 x3 x4 (ix2 o 1) = 0 + ∑ r, hidden x0 x1 x2 x3 x4 o r * hidden x0 x1 x2 x3 x4 o r := by
  unfold out0_A_6
  rw [View.read_writes_eq_canon _ _ _ (cover0_A_6 c i a2 h2 a3 h3 a4 h4 a5 h5 a6 h6 a7 h7 a8 h8 hc x0 x1 x2 x3 x4)]
  unfold kernelRun0_A
  dsimp only
  sl_unfold_words
  refine (canon_col₁ _ _ o).trans ?_
  simp only [View.readAt_eq_ld, h2.read_unread, h3.read_unread, h4.read_unread, h5.read_unread, h6.read_unread, h8.read_unread,
    View.ld_unit_zero (S := S1x4096x3) zeros₃, View.ld_unit_zero (S := S1x8x2048) zeros₃,
    View.ld_unit_zero (S := S1x128x2048) zeros₃, View.ld_unit_zero (S := S1x64x4096) zeros₃,
    View.ld_unit_zero (S := S128x192) zeros₂, View.readCov_eq_canon']
  refine (pay5_apply x0 x1 x2 x3 x4 _ o 0).trans ?_
  rw [idx_col₁]
  refine congrArg (· + _) ((canon_skip _ _ o).trans ?_)
  rw [View.canon_unit_zero (S := S128x2) zeros₂, zero_sums]

/-- The block of the first layer, at a later point. -/
theorem later_block (hc : ¬cond0_0 i)
    (x0 : Vec Ideal S1x4096x3 .f32) (x1 : Vec Ideal S1x8x2048 .f32) (x2 : Vec Ideal S1x128x2048 .f32)
    (x3 : Vec Ideal S1x64x4096 .f32) (x4 : Vec Ideal S128x192 .f32) (xo : Vec Ideal S128x2 .f32) :
    out0_B_5 (F := Ideal) c i a2 h2 a3 h3 a4 h4 a5 h5 a6 h6 a7 h7 a8 h8 hc x0 x1 x2 x3 x4 xo = k0_pay2 (half₁ x0 x1 x2 x4) (k0_pay17 x3 x4) := by
  unfold out0_B_5
  rw [View.read_writes_eq_canon _ _ _ (cover0_B_5 c i a2 h2 a3 h3 a4 h4 a5 h5 a6 h6 a7 h7 a8 h8 hc x0 x1 x2 x3 x4 xo)]
  unfold kernelRun0_B
  dsimp only
  sl_unfold_words
  rw [View.canon_unit_zero (S := S1x128x4096) zeros₃]
  simp only [View.readAt_eq_ld, h2.read_unread, h3.read_unread, h4.read_unread, h5.read_unread, h6.read_unread, h8.read_unread,
    View.ld_unit_zero (S := S1x4096x3) zeros₃, View.ld_unit_zero (S := S1x8x2048) zeros₃,
    View.ld_unit_zero (S := S1x128x2048) zeros₃, View.ld_unit_zero (S := S1x64x4096) zeros₃,
    View.ld_unit_zero (S := S128x192) zeros₂, View.readCov_eq_canon']

/-- The running sums after a later point. -/
theorem later_col₀ (hc : ¬cond0_0 i)
    (x0 : Vec Ideal S1x4096x3 .f32) (x1 : Vec Ideal S1x8x2048 .f32) (x2 : Vec Ideal S1x128x2048 .f32)
    (x3 : Vec Ideal S1x64x4096 .f32) (x4 : Vec Ideal S128x192 .f32) (xo : Vec Ideal S128x2 .f32) (o : Fin 128) :
    out0_B_6 (F := Ideal) c i a2 h2 a3 h3 a4 h4 a5 h5 a6 h6 a7 h7 a8 h8 hc x0 x1 x2 x3 x4 xo (ix2 o 0) = xo (ix2 o 0) + ∑ r, hidden x0 x1 x2 x3 x4 o r := by
  unfold out0_B_6
  rw [View.read_writes_eq_canon _ _ _ (cover0_B_6 c i a2 h2 a3 h3 a4 h4 a5 h5 a6 h6 a7 h7 a8 h8 hc x0 x1 x2 x3 x4 xo)]
  unfold kernelRun0_B
  dsimp only
  sl_unfold_words
  refine (canon_col₀ _ _ _ o).trans ?_
  simp only [View.readAt_eq_ld, h2.read_unread, h3.read_unread, h4.read_unread, h5.read_unread, h6.read_unread, h8.read_unread,
    View.ld_unit_zero (S := S1x4096x3) zeros₃, View.ld_unit_zero (S := S1x8x2048) zeros₃,
    View.ld_unit_zero (S := S1x128x2048) zeros₃, View.ld_unit_zero (S := S1x64x4096) zeros₃,
    View.ld_unit_zero (S := S128x192) zeros₂, View.readCov_eq_canon']
  refine (pay4_apply x0 x1 x2 x3 x4 _ o 0).trans ?_
  rw [View.ld_apply, idx_col₀]

/-- The running sums of squares after a later point. -/
theorem later_col₁ (hc : ¬cond0_0 i)
    (x0 : Vec Ideal S1x4096x3 .f32) (x1 : Vec Ideal S1x8x2048 .f32) (x2 : Vec Ideal S1x128x2048 .f32)
    (x3 : Vec Ideal S1x64x4096 .f32) (x4 : Vec Ideal S128x192 .f32) (xo : Vec Ideal S128x2 .f32) (o : Fin 128) :
    out0_B_6 (F := Ideal) c i a2 h2 a3 h3 a4 h4 a5 h5 a6 h6 a7 h7 a8 h8 hc x0 x1 x2 x3 x4 xo (ix2 o 1) = xo (ix2 o 1) + ∑ r, hidden x0 x1 x2 x3 x4 o r * hidden x0 x1 x2 x3 x4 o r := by
  unfold out0_B_6
  rw [View.read_writes_eq_canon _ _ _ (cover0_B_6 c i a2 h2 a3 h3 a4 h4 a5 h5 a6 h6 a7 h7 a8 h8 hc x0 x1 x2 x3 x4 xo)]
  unfold kernelRun0_B
  dsimp only
  sl_unfold_words
  refine (canon_col₁ _ _ o).trans ?_
  simp only [View.readAt_eq_ld, h2.read_unread, h3.read_unread, h4.read_unread, h5.read_unread, h6.read_unread, h8.read_unread,
    View.ld_unit_zero (S := S1x4096x3) zeros₃, View.ld_unit_zero (S := S1x8x2048) zeros₃,
    View.ld_unit_zero (S := S1x128x2048) zeros₃, View.ld_unit_zero (S := S1x64x4096) zeros₃,
    View.ld_unit_zero (S := S128x192) zeros₂, View.readCov_eq_canon']
  refine (pay5_apply x0 x1 x2 x3 x4 _ o 0).trans ?_
  rw [View.ld_apply, idx_col₁]

end

end Cert.KernelIdeal.PointOne
-- ==== Proof.ArrayOne.lean ====
/- What the first pass leaves in its two result arrays: the first layer at every place, and its sums and sums of squares
   over all the places. -/
module

public import proofs.«01_k».proof.Proof.PointOne

@[expose] public section

set_option maxRecDepth 16384

noncomputable section

namespace Cert.KernelIdeal.ArrayOne

open Cert.KernelIdeal Cert.KernelIdeal.Gen Idealize.ShloMosaic Idealize.ShloMosaic.TcCoe Idealize.SL.Sem
open Idealize.ShloMosaic.Pipeline (Dat)
open Cert.KernelIdeal.PassOne Cert.KernelIdeal.PointOne Cert.Proof
open scoped BigOperators

/-- The first layer of a place, from whole arrays: the three nearest known places, their blended features, the
    combination with the features of the place. -/
def layerAt (x0 : S2x8192x3.Idx → EReal) (x1 : S2x8x2048.Idx → EReal) (x2 : S2x128x2048.Idx → EReal)
    (x3 : S2x64x8192.Idx → EReal) (x4 : S128x192.Idx → EReal) (b : Fin 2) (n : Fin 8192) (o : Fin 128) : EReal :=
  layer (fun c => x4 (ix2 o c))
    (fun c => blendStruck (fun m => gap (fun a => x0 (ix3 b n a)) fun a => x1 (ix3 b ⟨a.val, by omega⟩ m)) fun m => x2 (ix3 b c m))
    fun c => x3 (ix3 b c n)

/-- The batch of a point, and the place of a lane of a point. -/
def batch (t : Fin cfg0.N) : Fin 2 := ⟨t.val / 2, by have := t.isLt; have : cfg0.N = 4 := N_0; omega⟩
/-- The place in its batch of a lane of a point. -/
def place (t : Fin cfg0.N) (r : Fin 4096) : Fin 8192 := ⟨4096 * (t.val % 2) + r.val, by omega⟩

section
variable (V : (c : Dev nD) → (b : Ref sig .tc) → Buf (Elt Ideal) ((c : Thread nD τ).loc b))

/-- The block of array 0 that a point works on, by its index on each axis. -/
theorem index_0 (t : Fin cfg0.N) : win0_0.index t 0 = t.val / 2 ∧ win0_0.index t 1 = t.val % 2 ∧ win0_0.index t 2 = 0 := by
  rcases fin_N0 t with rfl | rfl | rfl | rfl <;> decide

/-- The block of window 0 at a point, read off its array. -/
theorem block_0 (c : Dev nD) (t : Fin cfg0.N) (z : Fin 1) (r : Fin 4096) (a : Fin 3) :
    (iblk0 V c 0 t : Vec Ideal S1x4096x3 .f32) (ix3 z r a) = (V c main_arg0 : S2x8192x3.Idx → EReal) (ix3 (batch t) (place t r) a) := by
  obtain ⟨e0, e1, e2⟩ := index_0 t
  unfold iblk0
  rw [View.read_apply]
  show V c main_arg0 _ = V c main_arg0 _
  congr 1
  funext a'
  apply Fin.ext
  match a' with
  | ⟨0, _⟩ => show win0_0.index t 0 * 1 + 1 * z.val = (batch t).val; rw [e0]; (try simp only [batch, place]); omega
  | ⟨1, _⟩ => show win0_0.index t 1 * 4096 + 1 * r.val = (place t r).val; rw [e1]; (try simp only [batch, place]); omega
  | ⟨2, _⟩ => show win0_0.index t 2 * 3 + 1 * a.val = a.val; rw [e2]; (try simp only [batch, place]); omega

/-- The block of array 1 that a point works on, by its index on each axis. -/
theorem index_1 (t : Fin cfg0.N) : win0_1.index t 0 = t.val / 2 ∧ win0_1.index t 1 = 0 ∧ win0_1.index t 2 = 0 := by
  rcases fin_N0 t with rfl | rfl | rfl | rfl <;> decide

/-- The block of window 1 at a point, read off its array. -/
theorem block_1 (c : Dev nD) (t : Fin cfg0.N) (z : Fin 1) (a : Fin 8) (m : Fin 2048) :
    (iblk0 V c 1 t : Vec Ideal S1x8x2048 .f32) (ix3 z a m) = (V c main_v1 : S2x8x2048.Idx → EReal) (ix3 (batch t) a m) := by
  obtain ⟨e0, e1, e2⟩ := index_1 t
  unfold iblk0
  rw [View.read_apply]
  show V c main_v1 _ = V c main_v1 _
  congr 1
  funext a'
  apply Fin.ext
  match a' with
  | ⟨0, _⟩ => show win0_1.index t 0 * 1 + 1 * z.val = (batch t).val; rw [e0]; (try simp only [batch, place]); omega
  | ⟨1, _⟩ => show win0_1.index t 1 * 8 + 1 * a.val = a.val; rw [e1]; (try simp only [batch, place]); omega
  | ⟨2, _⟩ => show win0_1.index t 2 * 2048 + 1 * m.val = m.val; rw [e2]; (try simp only [batch, place]); omega

/-- The block of array 2 that a point works on, by its index on each axis. -/
theorem index_2 (t : Fin cfg0.N) : win0_2.index t 0 = t.val / 2 ∧ win0_2.index t 1 = 0 ∧ win0_2.index t 2 = 0 := by
  rcases fin_N0 t with rfl | rfl | rfl | rfl <;> decide

/-- The block of window 2 at a point, read off its array. -/
theorem block_2 (c : Dev nD) (t : Fin cfg0.N) (z : Fin 1) (a : Fin 128) (m : Fin 2048) :
    (iblk0 V c 2 t : Vec Ideal S1x128x2048 .f32) (ix3 z a m) = (V c main_arg3 : S2x128x2048.Idx → EReal) (ix3 (batch t) a m) := by
  obtain ⟨e0, e1, e2⟩ := index_2 t
  unfold iblk0
  rw [View.read_apply]
  show V c main_arg3 _ = V c main_arg3 _
  congr 1
  funext a'
  apply Fin.ext
  match a' with
  | ⟨0, _⟩ => show win0_2.index t 0 * 1 + 1 * z.val = (batch t).val; rw [e0]; (try simp only [batch, place]); omega
  | ⟨1, _⟩ => show win0_2.index t 1 * 128 + 1 * a.val = a.val; rw [e1]; (try simp only [batch, place]); omega
  | ⟨2, _⟩ => show win0_2.index t 2 * 2048 + 1 * m.val = m.val; rw [e2]; (try simp only [batch, place]); omega

/-- The block of array 3 that a point works on, by its index on each axis. -/
theorem index_3 (t : Fin cfg0.N) : win0_3.index t 0 = t.val / 2 ∧ win0_3.index t 1 = 0 ∧ win0_3.index t 2 = t.val % 2 := by
  rcases fin_N0 t with rfl | rfl | rfl | rfl <;> decide

/-- The block of window 3 at a point, read off its array. -/
theorem block_3 (c : Dev nD) (t : Fin cfg0.N) (z : Fin 1) (a : Fin 64) (r : Fin 4096) :
    (iblk0 V c 3 t : Vec Ideal S1x64x4096 .f32) (ix3 z a r) = (V c main_arg2 : S2x64x8192.Idx → EReal) (ix3 (batch t) a (place t r)) := by
  obtain ⟨e0, e1, e2⟩ := index_3 t
  unfold iblk0
  rw [View.read_apply]
  show V c main_arg2 _ = V c main_arg2 _
  congr 1
  funext a'
  apply Fin.ext
  match a' with
  | ⟨0, _⟩ => show win0_3.index t 0 * 1 + 1 * z.val = (batch t).val; rw [e0]; (try simp only [batch, place]); omega
  | ⟨1, _⟩ => show win0_3.index t 1 * 64 + 1 * a.val = a.val; rw [e1]; (try simp only [batch, place]); omega
  | ⟨2, _⟩ => show win0_3.index t 2 * 4096 + 1 * r.val = (place t r).val; rw [e2]; (try simp only [batch, place]); omega

/-- The block of array 4 that a point works on, by its index on each axis. -/
theorem index_4 (t : Fin cfg0.N) : win0_4.index t 0 = 0 ∧ win0_4.index t 1 = 0 := by
  rcases fin_N0 t with rfl | rfl | rfl | rfl <;> decide

/-- The block of window 4 at a point, read off its array. -/
theorem block_4 (c : Dev nD) (t : Fin cfg0.N) (o : Fin 128) (k : Fin 192) :
    (iblk0 V c 4 t : Vec Ideal S128x192 .f32) (ix2 o k) = (V c main_arg4 : S128x192.Idx → EReal) (ix2 o k) := by
  obtain ⟨e0, e1⟩ := index_4 t
  unfold iblk0
  rw [View.read_apply]
  show V c main_arg4 _ = V c main_arg4 _
  congr 1
  funext a'
  apply Fin.ext
  match a' with
  | ⟨0, _⟩ => show win0_4.index t 0 * 128 + 1 * o.val = o.val; rw [e0]; (try simp only [batch, place]); omega
  | ⟨1, _⟩ => show win0_4.index t 1 * 192 + 1 * k.val = k.val; rw [e1]; (try simp only [batch, place]); omega

/-- The first layer that a point computes. -/
theorem hidden_point (c : Dev nD) (t : Fin cfg0.N) (o : Fin 128) (r : Fin 4096) :
    PassOne.hidden (iblk0 V c 0 t) (iblk0 V c 1 t) (iblk0 V c 2 t) (iblk0 V c 3 t) (iblk0 V c 4 t) o r
      = layerAt (V c main_arg0) (V c main_v1) (V c main_arg3) (V c main_arg2) (V c main_arg4) (batch t) (place t r) o := by
  unfold PassOne.hidden layerAt dists
  simp only [block_0, block_1, block_2, block_3, block_4]

/-- The layer at every place, as the first result array. -/
def layers (c : Dev nD) : S2x128x8192.Idx → EReal := fun i =>
  layerAt (V c main_arg0) (V c main_v1) (V c main_arg3) (V c main_arg2) (V c main_arg4) (i 0) (i 2) (i 1)

/-- What a point leaves in the first result buffer. -/
theorem block_after (c : Dev nD) (t : Fin cfg0.N) (z : Fin 1) (o : Fin 128) (r : Fin 4096) :
    (outsAt0 V c t.val t.isLt).1 (ix3 z o r) = layers V c (ix3 (batch t) o (place t r)) := by
  by_cases h : t.val % 4 = 0
  · rw [outsAt0_A V c t h]
    dsimp only
    rw [first_block, pay2_apply, hidden_point]; rfl
  · rw [outsAt0_B V c t h]
    dsimp only
    rw [later_block, pay2_apply, hidden_point]; rfl

/-- The sums that a point adds. -/
def sums (c : Dev nD) (o : Fin 128) (t : Fin cfg0.N) : EReal := ∑ r, layers V c (ix3 (batch t) o (place t r))
/-- The sums of squares that a point adds. -/
def squares (c : Dev nD) (o : Fin 128) (t : Fin cfg0.N) : EReal :=
  ∑ r, layers V c (ix3 (batch t) o (place t r)) * layers V c (ix3 (batch t) o (place t r))

/-- The running sums: those of the points so far. -/
theorem col₀_after (c : Dev nD) (o : Fin 128) : ∀ (n : ℕ) (h : n < cfg0.N),
    (outsAt0 V c n h).2 (ix2 o 0) = ∑ k : Fin (n + 1), sums V c o ⟨k.val, by omega⟩
  | 0, h => by
    rw [outsAt0_A V c ⟨0, h⟩ (show (⟨0, h⟩ : Fin cfg0.N).val % 4 = 0 from rfl), Fin.sum_univ_one]
    dsimp only
    rw [first_col₀, zero_add]
    simp only [hidden_point]; rfl
  | n + 1, h => by
    have hN : cfg0.N = 4 := N_0
    have hB : ¬(⟨n + 1, h⟩ : Fin cfg0.N).val % 4 = 0 := by dsimp only; omega
    rw [outsAt0_B V c ⟨n + 1, h⟩ hB, Fin.sum_univ_castSucc]
    dsimp only
    rw [later_col₀]
    simp only [hidden_point]
    exact congrArg (· + _) (col₀_after c o n (Nat.lt_of_succ_lt h))

/-- The running sums of squares. -/
theorem col₁_after (c : Dev nD) (o : Fin 128) : ∀ (n : ℕ) (h : n < cfg0.N),
    (outsAt0 V c n h).2 (ix2 o 1) = ∑ k : Fin (n + 1), squares V c o ⟨k.val, by omega⟩
  | 0, h => by
    rw [outsAt0_A V c ⟨0, h⟩ (show (⟨0, h⟩ : Fin cfg0.N).val % 4 = 0 from rfl), Fin.sum_univ_one]
    dsimp only
    rw [first_col₁, zero_add]
    simp only [hidden_point]; rfl
  | n + 1, h => by
    have hN : cfg0.N = 4 := N_0
    have hB : ¬(⟨n + 1, h⟩ : Fin cfg0.N).val % 4 = 0 := by dsimp only; omega
    rw [outsAt0_B V c ⟨n + 1, h⟩ hB, Fin.sum_univ_castSucc]
    dsimp only
    rw [later_col₁]
    simp only [hidden_point]
    exact congrArg (· + _) (col₁_after c o n (Nat.lt_of_succ_lt h))

/-- The block of array 5 that a point works on, by its index on each axis. -/
theorem index_5 (t : Fin cfg0.N) : win0_5.index t 0 = t.val / 2 ∧ win0_5.index t 1 = 0 ∧ win0_5.index t 2 = t.val % 2 := by
  rcases fin_N0 t with rfl | rfl | rfl | rfl <;> decide

/-- What a point writes back is its block of the layers. -/
theorem flushed_layers (c : Dev nD) (t : Fin cfg0.N) :
    (dat0 V c).flushed 5 t = ((cfg0.win 5).blk t).view.read (Elt Ideal) (layers V c) := by
  obtain ⟨e0, e1, e2⟩ := index_5 t
  show (cfg0.win 5).cut (grid0.coords t) ((dat0 V c).after 5 t) = _
  rw [after0_5]
  funext j
  rw [View.read_apply]
  have hj : (j : S1x128x4096.Idx) = ix3 (j 0) (j 1) (j 2) := funext fun a => by fin_cases a <;> rfl
  refine (congrArg (outsAt0 V c t.val t.isLt).1 hj).trans ((block_after V c t _ _ _).trans ?_)
  show layers V c _ = layers V c _
  congr 1
  funext a'
  apply Fin.ext
  match a' with
  | ⟨0, _⟩ => show (batch t).val = win0_5.index t 0 * 1 + 1 * (j 0).val; rw [e0]; have : (j 0).val < 1 := (j 0).isLt; simp only [batch]; omega
  | ⟨1, _⟩ => show (j 1).val = win0_5.index t 1 * 128 + 1 * (j 1).val; rw [e1]; omega
  | ⟨2, _⟩ => show (place t (j 2)).val = win0_5.index t 2 * 4096 + 1 * (j 2).val; rw [e2]; simp only [place]; omega

/-- Every place is in the block of one point. -/
theorem cover_layers (i : S2x128x8192.Idx) :
    ∃ t : Fin cfg0.N, (cfg0.win 5).flush t = true ∧ i ∈ ((cfg0.win 5).blk t).view.set := by
  have h0 : (i 0 : Nat) < 2 := (i 0).isLt
  have h1 : (i 1 : Nat) < 128 := (i 1).isLt
  have h2 : (i 2 : Nat) < 8192 := (i 2).isLt
  have hN : cfg0.N = 4 := N_0
  let t : Fin cfg0.N := ⟨2 * (i 0).val + (i 2).val / 4096, by omega⟩
  obtain ⟨e0, e1, e2⟩ := index_5 t
  refine ⟨t, flush0_5 t, ?_⟩
  show i ∈ ((View.whole main_v2_0).slice (win0_5.rect t)).set
  rw [View.set_slice_whole, Rect.mem_set_unit]
  have ht : t.val = 2 * (i 0).val + (i 2).val / 4096 := rfl
  intro a
  match a with
  | ⟨0, _⟩ => show win0_5.index t 0 * 1 ≤ (i 0 : Nat) ∧ (i 0 : Nat) < win0_5.index t 0 * 1 + 1; rw [e0]; omega
  | ⟨1, _⟩ => show win0_5.index t 1 * 128 ≤ (i 1 : Nat) ∧ (i 1 : Nat) < win0_5.index t 1 * 128 + 128; rw [e1]; omega
  | ⟨2, _⟩ => show win0_5.index t 2 * 4096 ≤ (i 2 : Nat) ∧ (i 2 : Nat) < win0_5.index t 2 * 4096 + 4096; rw [e2]; omega

/-- The first result array ends holding the layers. -/
theorem final_layers (c : Dev nD) : (dat0 V c).arrAt 5 cfg0.N = layers V c :=
  (dat0 V c).arrAt_eq_of_cover 5 (layers V c) (fun t _ => flushed_layers V c t) cover_layers

/-- The second result array ends holding the sums after the last point. -/
theorem final_sums (c : Dev nD) : (dat0 V c).arrAt 6 cfg0.N = (outsAt0 V c 3 (by rw [show cfg0.N = 4 from N_0]; decide)).2 :=
  (dat0 V c).arrAt_eq_of_cover 6 _ (fun t hf => by
    have hN : cfg0.N = 4 := N_0
    have h3 : t.val = 3 := by have := (flush0_6 t).mp hf; have := t.isLt; omega
    obtain rfl : t = t0_3 := Fin.ext h3
    show (cfg0.win 6).cut (grid0.coords t0_3) ((dat0 V c).after 6 t0_3) = _
    rw [after0_6]
    have hz : (fun a => win0_6.index t0_3 a * main_v2_1.ty.shape.size a) = fun _ => 0 := funext fun a => by fin_cases a <;> decide
    exact (Memref.read_access_unit_zero (Elt Ideal) main_v2_1 hz (fun a => by rw [congrFun hz a]; simp) _).symm)
    fun i => ⟨t0_3, (flush0_6 t0_3).mpr rfl, by
      show i ∈ ((View.whole main_v2_1).slice (win0_6.rect t0_3)).set
      rw [View.set_slice_whole, Rect.mem_set_unit]
      have e : win0_6.index t0_3 0 = 0 ∧ win0_6.index t0_3 1 = 0 := by decide
      have h0 : (i 0 : Nat) < 128 := (i 0).isLt
      have h1 : (i 1 : Nat) < 2 := (i 1).isLt
      intro a
      match a with
      | ⟨0, _⟩ => show win0_6.index t0_3 0 * 128 ≤ (i 0 : Nat) ∧ (i 0 : Nat) < win0_6.index t0_3 0 * 128 + 128; rw [e.1]; omega
      | ⟨1, _⟩ => show win0_6.index t0_3 1 * 2 ≤ (i 1 : Nat) ∧ (i 1 : Nat) < win0_6.index t0_3 1 * 2 + 2; rw [e.2]; omega⟩

end

/-- The sum over the points and their lanes is the sum over the batches and places. -/
theorem sum_points (f : Fin 2 → Fin 8192 → EReal) :
    ∑ k : Fin 4, ∑ r, f (batch ⟨k.val, by rw [show cfg0.N = 4 from N_0]; omega⟩) (place ⟨k.val, by rw [show cfg0.N = 4 from N_0]; omega⟩ r)
      = ∑ i : Fin 2 × Fin 8192, f i.1 i.2 := by
  have half (g : Fin 8192 → EReal) : ∑ n, g n = (∑ r : Fin 4096, g ⟨r.val, by omega⟩) + ∑ r : Fin 4096, g ⟨4096 + r.val, by omega⟩ :=
    Fin.sum_univ_add (a := 4096) (b := 4096) g
  rw [Fintype.sum_prod_type, Fin.sum_univ_two, Fin.sum_univ_four]
  simp only [half]
  simp [batch, place, add_assoc]

end Cert.KernelIdeal.ArrayOne
-- ==== Proof.PassTwo.lean ====
/- What the second pass computes from its blocks, element by element: the normalised first layer and the gate. -/
module

public import proofs.«01_k».proof.Proof.Net
public import proofs.«01_k».proof.Proof.Gen.KernelIdeal.Skeleton
public import Idealize.ShloMosaic.Lib.Pointwise

@[expose] public section

set_option maxRecDepth 16384

noncomputable section

namespace Cert.KernelIdeal.PassTwo

open Cert.KernelIdeal Cert.KernelIdeal.Gen Idealize.ShloMosaic Cert.Proof
open scoped BigOperators

/-- The number of points, as the word that both programs divide by. -/
def points : EReal := Ideal.ofBits .f32 0x46800000#32

variable (h : Vec Ideal S1x128x4096 .f32) (s q g b : Vec Ideal S128x1 .f32) (wr : Vec Ideal S8x128 .f32)
  (br : Vec Ideal S8x1 .f32) (we : Vec Ideal S128x8 .f32) (be : Vec Ideal S128x1 .f32)

/-- The clipped first layer, at an element, from the sums and the sums of squares. -/
def clippedAt (c : Fin 128) (r : Fin 4096) : EReal :=
  clipped (Ideal.div (s (ix2 c 0)) points)
    (Ideal.div (q (ix2 c 0)) points - Ideal.div (s (ix2 c 0)) points * Ideal.div (s (ix2 c 0)) points)
    (g (ix2 c 0)) (b (ix2 c 0)) (h (ix3 0 c r))

/-- The clipped first layer, as the second pass computes it. -/
theorem pay2_apply (c : Fin 128) (r : Fin 4096) :
    k1_pay2 (F := Ideal) h s q g b (ix2 c r) = clippedAt h s q g b c r := by
  pointwise [k1_pay2]
  rfl

/-- The middle of the gate. -/
theorem pay3_apply (j : Fin 8) (r : Fin 4096) :
    k1_pay3 (F := Ideal) h s q g b wr br (ix2 j r)
      = middle (fun c => wr (ix2 j c)) (br (ix2 j 0)) fun c => clippedAt h s q g b c r := by
  pointwise [k1_pay3]
  simp only [pay2_apply]
  rfl

/-- The block that the second pass stores. -/
theorem pay1_apply (z : Fin 1) (o : Fin 128) (r : Fin 4096) :
    k1_pay1 (F := Ideal) (k1_pay2 h s q g b) (k1_pay3 h s q g b wr br) we be (ix3 z o r)
      = gated (fun j c => wr (ix2 j c)) (fun j => br (ix2 j 0)) (fun j => we (ix2 o j)) (be (ix2 o 0))
          (fun c => clippedAt h s q g b c r) (clippedAt h s q g b o r) := by
  pointwise [k1_pay1]
  simp only [pay2_apply, pay3_apply]
  rfl

end Cert.KernelIdeal.PassTwo
-- ==== Proof.ArrayTwo.lean ====
/- What the second pass leaves in the result array, from the arrays that it reads. -/
module

public import proofs.«01_k».proof.Proof.PassTwo
public import proofs.«01_k».proof.Proof.PointOne

@[expose] public section

set_option maxRecDepth 16384

noncomputable section

namespace Cert.KernelIdeal.ArrayTwo

open Cert.KernelIdeal Cert.KernelIdeal.Gen Idealize.ShloMosaic Idealize.ShloMosaic.TcCoe Idealize.SL.Sem
open Idealize.ShloMosaic.Pipeline (Dat)
open Cert.KernelIdeal.PassTwo Cert.KernelIdeal.PointOne Cert.Proof
open scoped BigOperators

/-- The clipped layer at a place, from whole arrays: the layers, their sums and sums of squares, scale and shift. -/
def clippedOf (h : S2x128x8192.Idx → EReal) (s : S128x2.Idx → EReal) (g b : S128x1.Idx → EReal) (k : Fin 2) (n : Fin 8192)
    (c : Fin 128) : EReal :=
  clipped (Ideal.div (s (ix2 c 0)) points)
    (Ideal.div (s (ix2 c 1)) points - Ideal.div (s (ix2 c 0)) points * Ideal.div (s (ix2 c 0)) points)
    (g (ix2 c 0)) (b (ix2 c 0)) (h (ix3 k c n))

/-- The result at a place, from whole arrays. -/
def outOf (h : S2x128x8192.Idx → EReal) (s : S128x2.Idx → EReal) (g b : S128x1.Idx → EReal) (wr : S8x128.Idx → EReal)
    (br : S8x1.Idx → EReal) (we : S128x8.Idx → EReal) (be : S128x1.Idx → EReal) (k : Fin 2) (o : Fin 128) (n : Fin 8192) : EReal :=
  gated (fun j c => wr (ix2 j c)) (fun j => br (ix2 j 0)) (fun j => we (ix2 o j)) (be (ix2 o 0))
    (fun c => clippedOf h s g b k n c) (clippedOf h s g b k n o)

/-- The batch of a point, and the place of a lane of a point. -/
def batch (t : Fin cfg1.N) : Fin 2 := ⟨t.val / 2, by have := t.isLt; have : cfg1.N = 4 := N_1; omega⟩
/-- The place in its batch of a lane of a point. -/
def place (t : Fin cfg1.N) (r : Fin 4096) : Fin 8192 := ⟨4096 * (t.val % 2) + r.val, by omega⟩

/-- The block that a point stores, at an element, from its blocks. -/
theorem out_block (x0 : Vec Ideal S1x128x4096 .f32) (x1 : Vec Ideal S128x2 .f32) (x2 x3 : Vec Ideal S128x1 .f32)
    (x4 : Vec Ideal S8x128 .f32) (x5 : Vec Ideal S8x1 .f32) (x6 : Vec Ideal S128x8 .f32) (x7 : Vec Ideal S128x1 .f32)
    (z : Fin 1) (o : Fin 128) (r : Fin 4096) :
    out1_8 (F := Ideal) x0 x1 x2 x3 x4 x5 x6 x7 (ix3 z o r)
      = gated (fun j c => x4 (ix2 j c)) (fun j => x5 (ix2 j 0)) (fun j => x6 (ix2 o j)) (x7 (ix2 o 0))
          (fun c => clippedAt x0 (View.ld x1 r1_1) (View.ld x1 r1_2) x2 x3 c r)
          (clippedAt x0 (View.ld x1 r1_1) (View.ld x1 r1_2) x2 x3 o r) := by
  unfold out1_8
  rw [View.canon_unit_zero (S := S1x128x4096) zeros₃, View.ld_unit_zero (S := S1x128x4096) zeros₃, View.ld_unit_zero (S := S128x1) zeros₂,
    View.ld_unit_zero (S := S128x1) zeros₂, View.ld_unit_zero (S := S8x128) zeros₂, View.ld_unit_zero (S := S8x1) zeros₂,
    View.ld_unit_zero (S := S128x8) zeros₂, View.ld_unit_zero (S := S128x1) zeros₂]
  exact pay1_apply x0 _ _ x2 x3 x4 x5 x6 x7 z o r

/-- The two columns of the sums. -/
theorem ld_col₀ (x1 : Vec Ideal S128x2 .f32) (c : Fin 128) : View.ld x1 r1_1 (ix2 c 0 : S128x1.Idx) = x1 (ix2 c 0) :=
  congrArg x1 (idx_col₀ c)
/-- The second column of the sums, as it is read. -/
theorem ld_col₁ (x1 : Vec Ideal S128x2 .f32) (c : Fin 128) : View.ld x1 r1_2 (ix2 c 0 : S128x1.Idx) = x1 (ix2 c 1) :=
  congrArg x1 (idx_col₁ c)

section
variable (V : (c : Dev nD) → (b : Ref sig .tc) → Buf (Elt Ideal) ((c : Thread nD τ).loc b))

/-- The block of array 0 that a point works on, by its index on each axis. -/
theorem index_0 (t : Fin cfg1.N) : win1_0.index t 0 = t.val / 2 ∧ win1_0.index t 1 = 0 ∧ win1_0.index t 2 = t.val % 2 := by
  rcases fin_N1 t with rfl | rfl | rfl | rfl <;> decide

/-- The block of window 0 at a point, read off its array. -/
theorem block_0 (c : Dev nD) (t : Fin cfg1.N) (z : Fin 1) (a : Fin 128) (r : Fin 4096) :
    (iblk1 V c 0 t : Vec Ideal S1x128x4096 .f32) (ix3 z a r) = (V c main_v2_0 : S2x128x8192.Idx → EReal) (ix3 (batch t) a (place t r)) := by
  obtain ⟨e0, e1, e2⟩ := index_0 t
  unfold iblk1
  rw [View.read_apply]
  show V c main_v2_0 _ = V c main_v2_0 _
  congr 1
  funext a'
  apply Fin.ext
  match a' with
  | ⟨0, _⟩ => show win1_0.index t 0 * 1 + 1 * z.val = (batch t).val; rw [e0]; (try simp only [batch, place]); omega
  | ⟨1, _⟩ => show win1_0.index t 1 * 128 + 1 * a.val = a.val; rw [e1]; (try simp only [batch, place]); omega
  | ⟨2, _⟩ => show win1_0.index t 2 * 4096 + 1 * r.val = (place t r).val; rw [e2]; (try simp only [batch, place]); omega

/-- The block of array 1 that a point works on, by its index on each axis. -/
theorem index_1 (t : Fin cfg1.N) : win1_1.index t 0 = 0 ∧ win1_1.index t 1 = 0 := by
  rcases fin_N1 t with rfl | rfl | rfl | rfl <;> decide

/-- The block of window 1 at a point, read off its array. -/
theorem block_1 (c : Dev nD) (t : Fin cfg1.N) (i : Fin 128) (k : Fin 2) :
    (iblk1 V c 1 t : Vec Ideal S128x2 .f32) (ix2 i k) = (V c main_v2_1 : S128x2.Idx → EReal) (ix2 i k) := by
  obtain ⟨e0, e1⟩ := index_1 t
  unfold iblk1
  rw [View.read_apply]
  show V c main_v2_1 _ = V c main_v2_1 _
  congr 1
  funext a'
  apply Fin.ext
  match a' with
  | ⟨0, _⟩ => show win1_1.index t 0 * 128 + 1 * i.val = i.val; rw [e0]; (try simp only [batch, place]); omega
  | ⟨1, _⟩ => show win1_1.index t 1 * 2 + 1 * k.val = k.val; rw [e1]; (try simp only [batch, place]); omega

/-- The block of array 2 that a point works on, by its index on each axis. -/
theorem index_2 (t : Fin cfg1.N) : win1_2.index t 0 = 0 ∧ win1_2.index t 1 = 0 := by
  rcases fin_N1 t with rfl | rfl | rfl | rfl <;> decide

/-- The block of window 2 at a point, read off its array. -/
theorem block_2 (c : Dev nD) (t : Fin cfg1.N) (i : Fin 128) (k : Fin 1) :
    (iblk1 V c 2 t : Vec Ideal S128x1 .f32) (ix2 i k) = (V c main_v7 : S128x1.Idx → EReal) (ix2 i k) := by
  obtain ⟨e0, e1⟩ := index_2 t
  unfold iblk1
  rw [View.read_apply]
  show V c main_v7 _ = V c main_v7 _
  congr 1
  funext a'
  apply Fin.ext
  match a' with
  | ⟨0, _⟩ => show win1_2.index t 0 * 128 + 1 * i.val = i.val; rw [e0]; (try simp only [batch, place]); omega
  | ⟨1, _⟩ => show win1_2.index t 1 * 1 + 1 * k.val = k.val; rw [e1]; (try simp only [batch, place]); omega

/-- The block of array 3 that a point works on, by its index on each axis. -/
theorem index_3 (t : Fin cfg1.N) : win1_3.index t 0 = 0 ∧ win1_3.index t 1 = 0 := by
  rcases fin_N1 t with rfl | rfl | rfl | rfl <;> decide

/-- The block of window 3 at a point, read off its array. -/
theorem block_3 (c : Dev nD) (t : Fin cfg1.N) (i : Fin 128) (k : Fin 1) :
    (iblk1 V c 3 t : Vec Ideal S128x1 .f32) (ix2 i k) = (V c main_v8 : S128x1.Idx → EReal) (ix2 i k) := by
  obtain ⟨e0, e1⟩ := index_3 t
  unfold iblk1
  rw [View.read_apply]
  show V c main_v8 _ = V c main_v8 _
  congr 1
  funext a'
  apply Fin.ext
  match a' with
  | ⟨0, _⟩ => show win1_3.index t 0 * 128 + 1 * i.val = i.val; rw [e0]; (try simp only [batch, place]); omega
  | ⟨1, _⟩ => show win1_3.index t 1 * 1 + 1 * k.val = k.val; rw [e1]; (try simp only [batch, place]); omega

/-- The block of array 4 that a point works on, by its index on each axis. -/
theorem index_4 (t : Fin cfg1.N) : win1_4.index t 0 = 0 ∧ win1_4.index t 1 = 0 := by
  rcases fin_N1 t with rfl | rfl | rfl | rfl <;> decide

/-- The block of window 4 at a point, read off its array. -/
theorem block_4 (c : Dev nD) (t : Fin cfg1.N) (i : Fin 8) (k : Fin 128) :
    (iblk1 V c 4 t : Vec Ideal S8x128 .f32) (ix2 i k) = (V c main_v3 : S8x128.Idx → EReal) (ix2 i k) := by
  obtain ⟨e0, e1⟩ := index_4 t
  unfold iblk1
  rw [View.read_apply]
  show V c main_v3 _ = V c main_v3 _
  congr 1
  funext a'
  apply Fin.ext
  match a' with
  | ⟨0, _⟩ => show win1_4.index t 0 * 8 + 1 * i.val = i.val; rw [e0]; (try simp only [batch, place]); omega
  | ⟨1, _⟩ => show win1_4.index t 1 * 128 + 1 * k.val = k.val; rw [e1]; (try simp only [batch, place]); omega

/-- The block of array 5 that a point works on, by its index on each axis. -/
theorem index_5 (t : Fin cfg1.N) : win1_5.index t 0 = 0 ∧ win1_5.index t 1 = 0 := by
  rcases fin_N1 t with rfl | rfl | rfl | rfl <;> decide

/-- The block of window 5 at a point, read off its array. -/
theorem block_5 (c : Dev nD) (t : Fin cfg1.N) (i : Fin 8) (k : Fin 1) :
    (iblk1 V c 5 t : Vec Ideal S8x1 .f32) (ix2 i k) = (V c main_v5 : S8x1.Idx → EReal) (ix2 i k) := by
  obtain ⟨e0, e1⟩ := index_5 t
  unfold iblk1
  rw [View.read_apply]
  show V c main_v5 _ = V c main_v5 _
  congr 1
  funext a'
  apply Fin.ext
  match a' with
  | ⟨0, _⟩ => show win1_5.index t 0 * 8 + 1 * i.val = i.val; rw [e0]; (try simp only [batch, place]); omega
  | ⟨1, _⟩ => show win1_5.index t 1 * 1 + 1 * k.val = k.val; rw [e1]; (try simp only [batch, place]); omega

/-- The block of array 6 that a point works on, by its index on each axis. -/
theorem index_6 (t : Fin cfg1.N) : win1_6.index t 0 = 0 ∧ win1_6.index t 1 = 0 := by
  rcases fin_N1 t with rfl | rfl | rfl | rfl <;> decide

/-- The block of window 6 at a point, read off its array. -/
theorem block_6 (c : Dev nD) (t : Fin cfg1.N) (i : Fin 128) (k : Fin 8) :
    (iblk1 V c 6 t : Vec Ideal S128x8 .f32) (ix2 i k) = (V c main_v6 : S128x8.Idx → EReal) (ix2 i k) := by
  obtain ⟨e0, e1⟩ := index_6 t
  unfold iblk1
  rw [View.read_apply]
  show V c main_v6 _ = V c main_v6 _
  congr 1
  funext a'
  apply Fin.ext
  match a' with
  | ⟨0, _⟩ => show win1_6.index t 0 * 128 + 1 * i.val = i.val; rw [e0]; (try simp only [batch, place]); omega
  | ⟨1, _⟩ => show win1_6.index t 1 * 8 + 1 * k.val = k.val; rw [e1]; (try simp only [batch, place]); omega

/-- The block of array 7 that a point works on, by its index on each axis. -/
theorem index_7 (t : Fin cfg1.N) : win1_7.index t 0 = 0 ∧ win1_7.index t 1 = 0 := by
  rcases fin_N1 t with rfl | rfl | rfl | rfl <;> decide

/-- The block of window 7 at a point, read off its array. -/
theorem block_7 (c : Dev nD) (t : Fin cfg1.N) (i : Fin 128) (k : Fin 1) :
    (iblk1 V c 7 t : Vec Ideal S128x1 .f32) (ix2 i k) = (V c main_v9 : S128x1.Idx → EReal) (ix2 i k) := by
  obtain ⟨e0, e1⟩ := index_7 t
  unfold iblk1
  rw [View.read_apply]
  show V c main_v9 _ = V c main_v9 _
  congr 1
  funext a'
  apply Fin.ext
  match a' with
  | ⟨0, _⟩ => show win1_7.index t 0 * 128 + 1 * i.val = i.val; rw [e0]; (try simp only [batch, place]); omega
  | ⟨1, _⟩ => show win1_7.index t 1 * 1 + 1 * k.val = k.val; rw [e1]; (try simp only [batch, place]); omega

/-- The result array that the second pass leaves. -/
def result (c : Dev nD) : S2x128x8192.Idx → EReal := fun i =>
  outOf (V c main_v2_0) (V c main_v2_1) (V c main_v7) (V c main_v8) (V c main_v3) (V c main_v5) (V c main_v6) (V c main_v9)
    (i 0) (i 1) (i 2)

/-- The clipped layer of a point's blocks is the clipped layer of the arrays at the point's places. -/
theorem clipped_block (c : Dev nD) (t : Fin cfg1.N) (o : Fin 128) (r : Fin 4096) :
    clippedAt (iblk1 V c 0 t) (View.ld (iblk1 V c 1 t : Vec Ideal S128x2 .f32) r1_1) (View.ld (iblk1 V c 1 t : Vec Ideal S128x2 .f32) r1_2)
        (iblk1 V c 2 t) (iblk1 V c 3 t) o r
      = clippedOf (V c main_v2_0) (V c main_v2_1) (V c main_v7) (V c main_v8) (batch t) (place t r) o := by
  unfold clippedAt clippedOf
  rw [ld_col₀, ld_col₁]
  rw [block_0 V c t 0 o r]
  rw [block_1 V c t o 0]
  rw [block_1 V c t o 1]
  rw [block_2 V c t o 0]
  rw [block_3 V c t o 0]

/-- What a point stores is its block of the result. -/
theorem block_after (c : Dev nD) (t : Fin cfg1.N) (z : Fin 1) (o : Fin 128) (r : Fin 4096) :
    out1_8 (F := Ideal) (iblk1 V c 0 t) (iblk1 V c 1 t) (iblk1 V c 2 t) (iblk1 V c 3 t) (iblk1 V c 4 t) (iblk1 V c 5 t)
      (iblk1 V c 6 t) (iblk1 V c 7 t) (ix3 z o r) = result V c (ix3 (batch t) o (place t r)) := by
  rw [out_block]
  show _ = outOf (V c main_v2_0) (V c main_v2_1) (V c main_v7) (V c main_v8) (V c main_v3) (V c main_v5) (V c main_v6) (V c main_v9)
    (batch t) o (place t r)
  unfold outOf
  refine (congrArg₂ (gated _ _ _ _) (funext fun o => clipped_block V c t o r) (clipped_block V c t o r)).trans ?_
  rw [funext fun j : Fin 8 => funext fun k : Fin 128 => block_4 V c t j k]
  rw [funext fun j : Fin 8 => block_5 V c t j 0]
  rw [funext fun j : Fin 8 => block_6 V c t o j]
  rw [block_7 V c t o 0]

/-- The block of array 8 that a point works on, by its index on each axis. -/
theorem index_8 (t : Fin cfg1.N) : win1_8.index t 0 = t.val / 2 ∧ win1_8.index t 1 = 0 ∧ win1_8.index t 2 = t.val % 2 := by
  rcases fin_N1 t with rfl | rfl | rfl | rfl <;> decide

/-- What a point writes back is its block of the result. -/
theorem flushed_result (c : Dev nD) (t : Fin cfg1.N) :
    (dat1 V c).flushed 8 t = ((cfg1.win 8).blk t).view.read (Elt Ideal) (result V c) := by
  obtain ⟨e0, e1, e2⟩ := index_8 t
  show (cfg1.win 8).cut (grid1.coords t) ((dat1 V c).after 8 t) = _
  rw [after1_8]
  funext j
  rw [View.read_apply]
  have hj : (j : S1x128x4096.Idx) = ix3 (j 0) (j 1) (j 2) := funext fun a => by fin_cases a <;> rfl
  refine (congrArg (out1_8 (F := Ideal) (iblk1 V c 0 t) (iblk1 V c 1 t) (iblk1 V c 2 t) (iblk1 V c 3 t) (iblk1 V c 4 t)
    (iblk1 V c 5 t) (iblk1 V c 6 t) (iblk1 V c 7 t)) hj).trans ((block_after V c t _ _ _).trans ?_)
  show result V c _ = result V c _
  congr 1
  funext a'
  apply Fin.ext
  match a' with
  | ⟨0, _⟩ => show (batch t).val = win1_8.index t 0 * 1 + 1 * (j 0).val; rw [e0]; have : (j 0).val < 1 := (j 0).isLt; simp only [batch]; omega
  | ⟨1, _⟩ => show (j 1).val = win1_8.index t 1 * 128 + 1 * (j 1).val; rw [e1]; omega
  | ⟨2, _⟩ => show (place t (j 2)).val = win1_8.index t 2 * 4096 + 1 * (j 2).val; rw [e2]; simp only [place]; omega

/-- Every place is in the block of one point. -/
theorem cover_result (i : S2x128x8192.Idx) :
    ∃ t : Fin cfg1.N, (cfg1.win 8).flush t = true ∧ i ∈ ((cfg1.win 8).blk t).view.set := by
  have h0 : (i 0 : Nat) < 2 := (i 0).isLt
  have h1 : (i 1 : Nat) < 128 := (i 1).isLt
  have h2 : (i 2 : Nat) < 8192 := (i 2).isLt
  have hN : cfg1.N = 4 := N_1
  let t : Fin cfg1.N := ⟨2 * (i 0).val + (i 2).val / 4096, by omega⟩
  obtain ⟨e0, e1, e2⟩ := index_8 t
  refine ⟨t, flush1_8 t, ?_⟩
  show i ∈ ((View.whole main_v10).slice (win1_8.rect t)).set
  rw [View.set_slice_whole, Rect.mem_set_unit]
  have ht : t.val = 2 * (i 0).val + (i 2).val / 4096 := rfl
  intro a
  match a with
  | ⟨0, _⟩ => show win1_8.index t 0 * 1 ≤ (i 0 : Nat) ∧ (i 0 : Nat) < win1_8.index t 0 * 1 + 1; rw [e0]; omega
  | ⟨1, _⟩ => show win1_8.index t 1 * 128 ≤ (i 1 : Nat) ∧ (i 1 : Nat) < win1_8.index t 1 * 128 + 128; rw [e1]; omega
  | ⟨2, _⟩ => show win1_8.index t 2 * 4096 ≤ (i 2 : Nat) ∧ (i 2 : Nat) < win1_8.index t 2 * 4096 + 4096; rw [e2]; omega

/-- The result array ends holding the result. -/
theorem final_result (c : Dev nD) : (dat1 V c).arrAt 8 cfg1.N = result V c :=
  (dat1 V c).arrAt_eq_of_cover 8 (result V c) (fun t _ => flushed_result V c t) cover_result

end

end Cert.KernelIdeal.ArrayTwo
-- ==== Proof.Between.lean ====
/- What stands in the arrays when each pass begins: the padded and reshaped arguments. -/
module

public import proofs.«01_k».proof.Proof.ArrayOne
public import proofs.«01_k».proof.Proof.ArrayTwo
public import Idealize.ShloMosaic.Lib.Pointwise
public import Idealize.ShloMosaic.Lib.KernelVsHost

@[expose] public section

set_option maxRecDepth 16384

noncomputable section

namespace Cert.KernelIdeal.Between

open Cert.KernelIdeal Cert.KernelIdeal.Gen Idealize.ShloMosaic Idealize.ShloMosaic.TcCoe Idealize.SL.Sem
open Cert.Proof
open scoped BigOperators

variable (m : (ℓ : Loc nD τ sig) → Buf (Elt Ideal) ℓ) (ρ : Dev nD → PrngReg) (c : Dev nD)

/-- An argument array as launched. -/
abbrev arg (a : Ref sig .tc) : Buf (Elt Ideal) ((c : Thread nD τ).loc a) := m ((c : Thread nD τ).loc a)

/-- The padding value is zero. -/
theorem zero_word : (sitofp .f32 (constantI S_ 32 0#32) : FVec Ideal S_ .f32) = fun _ => (0 : EReal) := by
  funext i
  show ((((0#32 : BitVec 32).toInt : ℝ)) : EReal) = 0
  simp

/-- An array of points turned, at an element. -/
theorem turned_apply (x : S2x2048x3.Idx → EReal) (b : Fin 2) (a : Fin 3) (k : Fin 2048) :
    transpose S2x3x2048 [0, 2, 1] x transposes_S2x2048x3_S2x3x2048_0_2_1 (ix3 b a k) = x (ix3 b k a) := by
  pointwise

/-- Past its first five columns a padded array is the padding value. -/
theorem past_columns (x : S128x5.Idx → EReal) (o : Fin 128) (j : Fin 3) :
    pad S128x8 ![0, 0] ![0, 3] ![0, 0] x (fun _ : S_.Idx => (0 : EReal)) pads_S128x5_S128x8_000_030 h_S_ (ix2 o (Fin.natAdd 5 j)) = 0 := by
  refine pad_apply_of_not_inside _ _ _ _ _ _ _ _ (1 : Fin 2) ?_
  rintro ⟨-, -, l⟩
  revert l
  simp

/-- The known points, turned and padded, when the first pass begins. -/
theorem known_eq : V2 m ρ c main_v1 = pad S2x8x2048 ![0, 0, 0] ![0, 5, 0] ![0, 0, 0]
    (transpose S2x3x2048 [0, 2, 1] (arg m c main_arg1) transposes_S2x2048x3_S2x3x2048_0_2_1)
    (sitofp .f32 (constantI S_ 32 0#32) : FVec Ideal S_ .f32) pads_S2x3x2048_S2x8x2048_000_050_000 h_S_ := by
  show StableHlo.after hostOps0_1 (StableHlo.after hostOps0 (W0 m ρ c)) (Proc.devRef .tc main_v1) = _
  after_results
  rfl

/-- A coordinate of a known point. -/
theorem known_apply (b : Fin 2) (a : Fin 3) (k : Fin 2048) :
    (V2 m ρ c main_v1 : S2x8x2048.Idx → EReal) (ix3 b ⟨a.val, by omega⟩ k) = (arg m c main_arg1 : S2x2048x3.Idx → EReal) (ix3 b k a) := by
  rw [known_eq]
  refine (pad_apply_of_inside _ _ _ _ _ _ _ _ (ix3 b a k) ?_).trans (turned_apply _ b a k)
  intro d
  fin_cases d <;> simp

/-- The first weight of the gate, padded by three rows. -/
theorem wr_eq : V10 m ρ c main_v3 = pad S8x128 ![0, 0] ![3, 0] ![0, 0] (arg m c main_arg7)
    (sitofp .f32 (constantI S_ 32 0#32) : FVec Ideal S_ .f32) pads_S5x128_S8x128_030_000 h_S_ := by
  have e : V10 m ρ c main_v3 = W5 m ρ c (Proc.devRef .tc main_v3) :=
    (W10_of m ρ c main_v3 (by decide)).trans ((W9_of m ρ c main_v3 (by decide)).trans ((W8_of m ρ c main_v3 (by decide)).trans ((W7_of m ρ c main_v3 (by decide)).trans (W6_of m ρ c main_v3 (by decide)))))
  have a : W4 m ρ c (Proc.devRef .tc main_arg7) = arg m c main_arg7 := W4_args m ρ c main_arg7 (by decide)
  have z : W4 m ρ c (Proc.devRef .tc main_c_0) = constantI S_ 32 0#32 := by
    show StableHlo.after hostOps1 (W3 m ρ c) (Proc.devRef .tc main_c_0) = _
    after_results
  rw [e, ← a, ← z]
  show StableHlo.after hostOps1_1 (W4 m ρ c) (Proc.devRef .tc main_v3) = _
  after_results
  rfl

/-- Its first five rows. -/
theorem wr_apply (j : Fin 5) (o : Fin 128) :
    (V10 m ρ c main_v3 : S8x128.Idx → EReal) (ix2 (Fin.castAdd 3 j) o) = (arg m c main_arg7 : S5x128.Idx → EReal) (ix2 j o) := by
  rw [wr_eq]
  refine pad_apply_of_inside _ _ _ _ _ _ _ _ (ix2 j o) ?_
  intro d
  fin_cases d <;> simp

/-- The first shift of the gate, padded by three and made a column. -/
theorem br_eq : V10 m ρ c main_v5 = shapeCast S8x1 (pad S8 ![0] ![3] ![0] (arg m c main_arg8)
    (sitofp .f32 (constantI S_ 32 0#32) : FVec Ideal S_ .f32) pads_S5_S8_030 h_S_) shapeCasts_S8_S8x1 := by
  have e : V10 m ρ c main_v5 = W8 m ρ c (Proc.devRef .tc main_v5) :=
    (W10_of m ρ c main_v5 (by decide)).trans (W9_of m ρ c main_v5 (by decide))
  have a : W6 m ρ c (Proc.devRef .tc main_arg8) = arg m c main_arg8 := W6_args m ρ c main_arg8 (by decide)
  have z : W6 m ρ c (Proc.devRef .tc main_c_1) = constantI S_ 32 0#32 := by
    show StableHlo.after hostOps1_2 (W5 m ρ c) (Proc.devRef .tc main_c_1) = _
    after_results
  rw [e, ← a, ← z]
  show StableHlo.after hostOps1_4 (StableHlo.after hostOps1_3 (W6 m ρ c)) (Proc.devRef .tc main_v5) = _
  after_results
  rfl

/-- Its first five entries. -/
theorem br_apply (j : Fin 5) :
    (V10 m ρ c main_v5 : S8x1.Idx → EReal) (ix2 (Fin.castAdd 3 j) 0) = (arg m c main_arg8 : S5.Idx → EReal) (ix1 j) := by
  rw [br_eq]
  refine Eq.trans (b := pad S8 ![0] ![3] ![0] (arg m c main_arg8) (sitofp .f32 (constantI S_ 32 0#32) : FVec Ideal S_ .f32) pads_S5_S8_030 h_S_ (ix1 (Fin.castAdd 3 j))) ?_ ?_
  · pointwise
  refine pad_apply_of_inside _ _ _ _ _ _ _ _ (ix1 j) ?_
  intro d
  fin_cases d <;> simp

/-- The second weight of the gate, padded by three columns. -/
theorem we_eq : V10 m ρ c main_v6 = pad S128x8 ![0, 0] ![0, 3] ![0, 0] (arg m c main_arg9)
    (sitofp .f32 (constantI S_ 32 0#32) : FVec Ideal S_ .f32) pads_S128x5_S128x8_000_030 h_S_ := by
  have e : V10 m ρ c main_v6 = W9 m ρ c (Proc.devRef .tc main_v6) :=
    W10_of m ρ c main_v6 (by decide)
  have a : W8 m ρ c (Proc.devRef .tc main_arg9) = arg m c main_arg9 := W8_args m ρ c main_arg9 (by decide)
  have z : W8 m ρ c (Proc.devRef .tc main_c_2) = constantI S_ 32 0#32 := by
    show StableHlo.after hostOps1_4 (W7 m ρ c) (Proc.devRef .tc main_c_2) = _
    after_results
  rw [e, ← a, ← z]
  show StableHlo.after hostOps1_5 (W8 m ρ c) (Proc.devRef .tc main_v6) = _
  after_results
  rfl

/-- Its first five columns. -/
theorem we_apply (o : Fin 128) (j : Fin 5) :
    (V10 m ρ c main_v6 : S128x8.Idx → EReal) (ix2 o (Fin.castAdd 3 j)) = (arg m c main_arg9 : S128x5.Idx → EReal) (ix2 o j) := by
  rw [we_eq]
  refine pad_apply_of_inside _ _ _ _ _ _ _ _ (ix2 o j) ?_
  intro d
  fin_cases d <;> simp

/-- Its last three columns are zero. -/
theorem we_zero (o : Fin 128) (j : Fin 3) :
    (V10 m ρ c main_v6 : S128x8.Idx → EReal) (ix2 o (Fin.natAdd 5 j)) = (0 : EReal) := by
  rw [we_eq, zero_word]
  exact past_columns _ o j

/-- The scale, made a column. -/
theorem scale_apply (o : Fin 128) :
    (V10 m ρ c main_v7 : S128x1.Idx → EReal) (ix2 o 0) = (arg m c main_arg5 : S128.Idx → EReal) (ix1 o) := by
  have a : W9 m ρ c (Proc.devRef .tc main_arg5) = arg m c main_arg5 := W9_args m ρ c main_arg5 (by decide)
  have e : V10 m ρ c main_v7 = shapeCast S128x1 (arg m c main_arg5) shapeCasts_S128_S128x1 := by
    rw [← a]
    show StableHlo.after hostOps1_6 (W9 m ρ c) (Proc.devRef .tc main_v7) = _
    after_results
    rfl
  rw [e]
  pointwise

/-- The shift, made a column. -/
theorem shift_apply (o : Fin 128) :
    (V10 m ρ c main_v8 : S128x1.Idx → EReal) (ix2 o 0) = (arg m c main_arg6 : S128.Idx → EReal) (ix1 o) := by
  have a : W9 m ρ c (Proc.devRef .tc main_arg6) = arg m c main_arg6 := W9_args m ρ c main_arg6 (by decide)
  have e : V10 m ρ c main_v8 = shapeCast S128x1 (arg m c main_arg6) shapeCasts_S128_S128x1 := by
    rw [← a]
    show StableHlo.after hostOps1_6 (W9 m ρ c) (Proc.devRef .tc main_v8) = _
    after_results
    rfl
  rw [e]
  pointwise

/-- The second shift of the gate, made a column. -/
theorem last_apply (o : Fin 128) :
    (V10 m ρ c main_v9 : S128x1.Idx → EReal) (ix2 o 0) = (arg m c main_arg10 : S128.Idx → EReal) (ix1 o) := by
  have a : W9 m ρ c (Proc.devRef .tc main_arg10) = arg m c main_arg10 := W9_args m ρ c main_arg10 (by decide)
  have e : V10 m ρ c main_v9 = shapeCast S128x1 (arg m c main_arg10) shapeCasts_S128_S128x1 := by
    rw [← a]
    show StableHlo.after hostOps1_6 (W9 m ρ c) (Proc.devRef .tc main_v9) = _
    after_results
    rfl
  rw [e]
  pointwise

/-- The layers that the first pass left are there when the second begins. -/
theorem layers_eq : V10 m ρ c main_v2_0 = ArrayOne.layers (V2 m ρ) c :=
  ((W10_of m ρ c main_v2_0 (by decide)).trans ((W9_of m ρ c main_v2_0 (by decide)).trans ((W8_of m ρ c main_v2_0 (by decide)).trans ((W7_of m ρ c main_v2_0 (by decide)).trans ((W6_of m ρ c main_v2_0 (by decide)).trans ((W5_of m ρ c main_v2_0 (by decide)).trans (W4_of m ρ c main_v2_0 (by decide)))))))).trans
    ((W3_arr m ρ c 5).trans (ArrayOne.final_layers (V2 m ρ) c))

/-- So are the sums. -/
theorem sums_eq : V10 m ρ c main_v2_1 = (outsAt0 (V2 m ρ) c 3 (by rw [show cfg0.N = 4 from N_0]; decide)).2 :=
  ((W10_of m ρ c main_v2_1 (by decide)).trans ((W9_of m ρ c main_v2_1 (by decide)).trans ((W8_of m ρ c main_v2_1 (by decide)).trans ((W7_of m ρ c main_v2_1 (by decide)).trans ((W6_of m ρ c main_v2_1 (by decide)).trans ((W5_of m ρ c main_v2_1 (by decide)).trans (W4_of m ρ c main_v2_1 (by decide)))))))).trans
    ((W3_arr m ρ c 6).trans (ArrayOne.final_sums (V2 m ρ) c))

end Cert.KernelIdeal.Between

end
-- ==== Proof.RefOut.lean ====
/- What the reference computes from its first layer on: the mean and the variance of a channel, the normalised and clipped
   layer, and the gate. -/
module

public import proofs.«01_k».proof.Proof.RefHidden
public import Idealize.ShloMosaic.Lib.Pointwise

@[expose] public section

set_option maxRecDepth 16384

noncomputable section

namespace Cert.ReferenceIdeal.Out

open Cert.ReferenceIdeal Cert.ReferenceIdeal.Gen Cert.ReferenceIdeal.Read Cert.ReferenceIdeal.Hidden Idealize.ShloMosaic Cert.Proof
open scoped BigOperators

/-- The number of points, as both programs write it. -/
theorem ofBits_points : Ideal.ofBits .f32 0x46800000#32 = ((16384 : ℝ) : EReal) := by
  have e : BitVec.extractLsb' 31 1 1182793728#32 = 0#1 := by decide
  show Ideal.ieee 8 23 0x46800000#32 = _
  unfold Ideal.ieee
  norm_num [e, Nat.shiftRight_eq_div_pow]

/-- The number added to a variance is finite. -/
theorem slack_ne_bot : slack ≠ ⊥ := by
  have e : BitVec.extractLsb' 31 1 925353388#32 = 0#1 := by decide
  show Ideal.ieee 8 23 0x3727C5AC#32 ≠ ⊥
  unfold Ideal.ieee
  norm_num [e, Nat.shiftRight_eq_div_pow]

section
variable (x0 : S2x8192x3.Idx → EReal) (x1 : S2x2048x3.Idx → EReal) (x2 : S2x64x8192.Idx → EReal) (x3 : S2x128x2048.Idx → EReal)
  (x4 : S128x192.Idx → EReal) (x5 x6 : S128.Idx → EReal) (x7 : S5x128.Idx → EReal) (x8 : S5.Idx → EReal) (x9 : S128x5.Idx → EReal)
  (x10 : S128.Idx → EReal)

/-- The first layer of a channel at all the points. -/
def channel (o : Fin 128) (i : Fin 2 × Fin 8192) : EReal := layerOf x0 x1 x2 x3 x4 i.1 i.2 o

/-- The sum of a channel. -/
theorem sum_apply (o : Fin 128) :
    val_main_v36 (F := Ideal) x0 x1 x2 x3 x4 (ix1 o) = ∑ i, channel x0 x1 x2 x3 x4 o i := by
  refine (sum_outer _ _ _ o).trans ?_
  rw [show val_main_cst_6 (F := Ideal) (Shape.Idx.first h_S_) = 0 from Ideal.ofBits_zero_f32, zero_add]
  exact Finset.sum_congr rfl fun i _ => layer_apply x0 x1 x2 x3 x4 i.1 o i.2

/-- The same sum, as the variance takes it. -/
theorem sum_apply' (o : Fin 128) :
    val_main_call0_v0 (F := Ideal) x0 x1 x2 x3 x4 (ix1 o) = ∑ i, channel x0 x1 x2 x3 x4 o i :=
  sum_apply x0 x1 x2 x3 x4 o

/-- The mean of a channel. -/
theorem mean_apply (o : Fin 128) :
    val_main_v39 (F := Ideal) x0 x1 x2 x3 x4 (ix3 0 o 0) = mean 16384 (channel x0 x1 x2 x3 x4 o) := by
  unfold mean
  rw [← sum_apply, ← ofBits_points]
  pointwise [val_main_v39, val_main_v38, val_main_v37, val_main_cst_7]

/-- The same mean, as the variance takes it. -/
theorem mean_apply' (o : Fin 128) :
    val_main_call0_v3 (F := Ideal) x0 x1 x2 x3 x4 (ix3 0 o 0) = mean 16384 (channel x0 x1 x2 x3 x4 o) := by
  unfold mean
  rw [← sum_apply', ← ofBits_points]
  pointwise [val_main_call0_v3, val_main_call0_v2, val_main_call0_v1, val_main_call0_cst_0]

/-- The square of a centred element. -/
theorem square_apply (o : Fin 128) (b : Fin 2) (n : Fin 8192) :
    val_main_call0_v6 (F := Ideal) x0 x1 x2 x3 x4 (ix3 b o n)
      = (channel x0 x1 x2 x3 x4 o (b, n) - mean 16384 (channel x0 x1 x2 x3 x4 o))
        * (channel x0 x1 x2 x3 x4 o (b, n) - mean 16384 (channel x0 x1 x2 x3 x4 o)) := by
  rw [← mean_apply', show channel x0 x1 x2 x3 x4 o (b, n) = _ from (layer_apply x0 x1 x2 x3 x4 b o n).symm]
  pointwise [val_main_call0_v6, val_main_call0_v5, val_main_call0_v4]

/-- The sum of the squares of a channel. -/
theorem squares_apply (o : Fin 128) :
    val_main_call0_v9 (F := Ideal) x0 x1 x2 x3 x4 (ix1 o)
      = ∑ i, (channel x0 x1 x2 x3 x4 o i - mean 16384 (channel x0 x1 x2 x3 x4 o))
        * (channel x0 x1 x2 x3 x4 o i - mean 16384 (channel x0 x1 x2 x3 x4 o)) := by
  refine (sum_outer _ _ _ o).trans ?_
  rw [show val_main_call0_cst_2 (F := Ideal) (Shape.Idx.first h_S_) = 0 from Ideal.ofBits_zero_f32, zero_add]
  exact Finset.sum_congr rfl fun i _ => square_apply x0 x1 x2 x3 x4 o i.1 i.2

/-- The divisor of the variance: the number of points less zero. -/
theorem divisor_apply (i : S_.Idx) : val_main_call0_v8 (F := Ideal) i = ((16384 : ℝ) : EReal) := by
  have e : val_main_call0_v8 (F := Ideal) i = Ideal.ofBits .f32 0x46800000#32 - (((0#32 : BitVec 32).toInt : ℝ) : EReal) := rfl
  rw [e, ofBits_points]
  simp

/-- The variance of a channel. -/
theorem spread_apply (o : Fin 128) :
    val_main_v40 (F := Ideal) x0 x1 x2 x3 x4 (ix3 0 o 0) = spreadCentred 16384 (channel x0 x1 x2 x3 x4 o) := by
  have e : val_main_v40 (F := Ideal) x0 x1 x2 x3 x4 (ix3 0 o 0)
      = Scalar.select (Ideal.cmp .ogt (val_main_call0_v8 (F := Ideal) ix0) 0)
          (Ideal.div (val_main_call0_v9 (F := Ideal) x0 x1 x2 x3 x4 (ix1 o)) (val_main_call0_v8 (F := Ideal) ix0))
          (Ideal.ofBits .f32 0x7FC00000#32) := by
    pointwise [val_main_v40, val_main_call0_v13, val_main_call0_v12, val_main_call0_v11, val_main_call0_v10, val_main_call0_cst_3,
      val_main_call0_call0_v1, val_main_call0_call0_v0, val_main_call0_cst_4]
    rfl
  rw [e, divisor_apply, squares_apply]
  have c : Ideal.cmp .ogt ((16384 : ℝ) : EReal) 0 = 1#1 := by
    show BitVec.ofBool (decide ((0 : EReal) < ((16384 : ℝ) : EReal))) = 1#1
    rw [decide_eq_true (by exact_mod_cast (by norm_num : (0 : ℝ) < 16384))]
    rfl
  rw [c]
  rfl

/-- The normalised and clipped layer of the reference at a place. -/
def clippedOf (b : Fin 2) (n : Fin 8192) (o : Fin 128) : EReal :=
  clipped (mean 16384 (channel x0 x1 x2 x3 x4 o)) (spreadCentred 16384 (channel x0 x1 x2 x3 x4 o)) (x5 (ix1 o)) (x6 (ix1 o))
    (channel x0 x1 x2 x3 x4 o (b, n))

/-- The reference's stage after the clipping at a place is that. -/
theorem clipped_apply (b : Fin 2) (o : Fin 128) (n : Fin 8192) :
    val_main_v54 (F := Ideal) x0 x1 x2 x3 x4 x5 x6 (ix3 b o n) = clippedOf x0 x1 x2 x3 x4 x5 x6 b n o := by
  unfold clippedOf clipped slack
  rw [← mean_apply, ← spread_apply, show channel x0 x1 x2 x3 x4 o (b, n) = _ from (layer_apply x0 x1 x2 x3 x4 b o n).symm]
  pointwise [val_main_v54, val_main_v53, val_main_v52, val_main_v51, val_main_v50, val_main_v49, val_main_v48, val_main_v47,
    val_main_v46, val_main_v45, val_main_v44, val_main_v43, val_main_v42, val_main_v41, val_main_cst_9, val_main_call1_v0,
    val_main_call1_cst]

/-- One of the numbers in the middle of the gate, before it is multiplied by its logistic. -/
theorem inner_apply (b : Fin 2) (j : Fin 5) (n : Fin 8192) :
    val_main_v59 (F := Ideal) x0 x1 x2 x3 x4 x5 x6 x7 x8 (ix3 b j n)
      = ∑ c, x7 (ix2 j c) * clippedOf x0 x1 x2 x3 x4 x5 x6 b n c + x8 (ix1 j) := by
  have e : val_main_v59 (F := Ideal) x0 x1 x2 x3 x4 x5 x6 x7 x8 (ix3 b j n)
      = ∑ c, val_main_v54 (F := Ideal) x0 x1 x2 x3 x4 x5 x6 (ix3 b c n) * x7 (ix2 j c) + x8 (ix1 j) := by
    pointwise [val_main_v59, val_main_v58, val_main_v57, val_main_v56, val_main_v55]
  rw [e]
  refine congrArg (· + _) (Finset.sum_congr rfl fun c _ => ?_)
  rw [clipped_apply, mul_comm]

/-- One of the numbers in the middle of the gate. -/
theorem middle_apply (b : Fin 2) (j : Fin 5) (n : Fin 8192) :
    val_main_v66 (F := Ideal) x0 x1 x2 x3 x4 x5 x6 x7 x8 (ix3 b j n)
      = middle (fun c => x7 (ix2 j c)) (x8 (ix1 j)) fun c => clippedOf x0 x1 x2 x3 x4 x5 x6 b n c := by
  unfold middle Ideal.logistic
  rw [← inner_apply]
  pointwise [val_main_v66, val_main_v65, val_main_v64, val_main_v63, val_main_v62, val_main_v61, val_main_v60, val_main_cst_10,
    val_main_cst_11]

/-- The gate before its logistic. -/
theorem outer_apply (b : Fin 2) (o : Fin 128) (n : Fin 8192) :
    val_main_v71 (F := Ideal) x0 x1 x2 x3 x4 x5 x6 x7 x8 x9 x10 (ix3 b o n)
      = ∑ j : Fin 5, x9 (ix2 o j) * middle (fun c => x7 (ix2 j c)) (x8 (ix1 j)) (fun c => clippedOf x0 x1 x2 x3 x4 x5 x6 b n c)
        + x10 (ix1 o) := by
  have e : val_main_v71 (F := Ideal) x0 x1 x2 x3 x4 x5 x6 x7 x8 x9 x10 (ix3 b o n)
      = ∑ j : Fin 5, val_main_v66 (F := Ideal) x0 x1 x2 x3 x4 x5 x6 x7 x8 (ix3 b j n) * x9 (ix2 o j) + x10 (ix1 o) := by
    pointwise [val_main_v71, val_main_v70, val_main_v69, val_main_v68, val_main_v67]
  rw [e]
  refine congrArg (· + _) (Finset.sum_congr rfl fun j _ => ?_)
  rw [middle_apply, mul_comm]

/-- The result of the reference at a place. -/
def outOf (b : Fin 2) (o : Fin 128) (n : Fin 8192) : EReal :=
  gated (fun (j : Fin 5) c => x7 (ix2 j c)) (fun j => x8 (ix1 j)) (fun j => x9 (ix2 o j)) (x10 (ix1 o))
    (fun c => clippedOf x0 x1 x2 x3 x4 x5 x6 b n c) (clippedOf x0 x1 x2 x3 x4 x5 x6 b n o)

/-- The reference's result at a place is that. -/
theorem out_apply (b : Fin 2) (o : Fin 128) (n : Fin 8192) :
    val_main_v78 (F := Ideal) x0 x1 x2 x3 x4 x5 x6 x7 x8 x9 x10 (ix3 b o n)
      = outOf x0 x1 x2 x3 x4 x5 x6 x7 x8 x9 x10 b o n := by
  unfold outOf gated Ideal.logistic
  rw [← outer_apply, ← clipped_apply]
  pointwise [val_main_v78, val_main_v77, val_main_v76, val_main_v75, val_main_v74, val_main_v73, val_main_v72, val_main_cst_12,
    val_main_cst_13]

end

end Cert.ReferenceIdeal.Out
-- ==== Proof.Equation.lean ====
/- The equation: what the kernel leaves in its result array is what the reference computes from the same arguments,
   where the four nearest distances of every point are apart. -/
module

public import proofs.«01_k».proof.Proof.Between
public import proofs.«01_k».proof.Proof.RefOut

@[expose] public section

set_option maxRecDepth 16384

noncomputable section

namespace Cert.KernelIdeal.Equation

open Cert.KernelIdeal Cert.KernelIdeal.Gen Idealize.ShloMosaic Idealize.ShloMosaic.TcCoe Idealize.SL.Sem
open Cert.KernelIdeal.Between Cert.Proof
open Cert.ReferenceIdeal.Hidden (far layerOf)
open Cert.ReferenceIdeal.Out (channel ofBits_points slack_ne_bot)
open scoped BigOperators

/-! ## The two layers -/

/-- The layer of the kernel is the layer of the reference: the padded known points have the same first three
    coordinates, and both ways of finding the nearest points agree. -/
theorem layer_eq (x0 : S2x8192x3.Idx → EReal) (x1 : S2x2048x3.Idx → EReal) (x2 : S2x64x8192.Idx → EReal)
    (x3 : S2x128x2048.Idx → EReal) (x4 : S128x192.Idx → EReal) (x1' : S2x8x2048.Idx → EReal)
    (h1 : ∀ (b : Fin 2) (a : Fin 3) (k : Fin 2048), x1' (ix3 b ⟨a.val, by omega⟩ k) = x1 (ix3 b k a))
    (ha : ∀ b n, Apart (far x0 x1 b n)) (b : Fin 2) (n : Fin 8192) (o : Fin 128) :
    ArrayOne.layerAt x0 x1' x3 x2 x4 b n o = layerOf x0 x1 x2 x3 x4 b n o := by
  unfold ArrayOne.layerAt layerOf
  have e : (fun m : Fin 2048 => gap (fun a => x0 (ix3 b n a)) fun a : Fin 3 => x1' (ix3 b ⟨a.val, by omega⟩ m)) = far x0 x1 b n :=
    funext fun k => congrArg (gap _) (funext fun a => h1 b a k)
  rw [e]
  exact congrArg (fun g => layer _ g _) (funext fun c => blend_eq (ha b n) _)

/-! ## The two clipped layers -/

/-- The mean and the variance of a channel taken from its sum and its sum of squares clip it as the reference does. -/
theorem clipped_eq (h : Fin 2 × Fin 8192 → EReal) (s t g b a : EReal) (hs : s = ∑ i, h i) (ht : t = ∑ i, h i * h i) :
    clipped (Ideal.div s PassTwo.points) (Ideal.div t PassTwo.points - Ideal.div s PassTwo.points * Ideal.div s PassTwo.points) g b a
      = clipped (mean 16384 h) (spreadCentred 16384 h) g b a := by
  have p : PassTwo.points = ((16384 : ℝ) : EReal) := ofBits_points
  rw [p, hs, ht]
  unfold clipped
  have e := normalise_eq (n := 16384) (by norm_num) (by simp) h a slack slack_ne_bot
  exact congrArg (fun q => max (q * g + b) 0) e

section
variable (m : (ℓ : Loc nD τ sig) → Buf (Elt Ideal) ℓ) (ρ : Dev nD → PrngReg) (c : Dev nD)

/-- One channel of the reference's layer over all points, from the arguments of the kernel. -/
abbrev channelAt (o : Fin 128) : Fin 2 × Fin 8192 → EReal :=
  channel (arg m c main_arg0) (arg m c main_arg1) (arg m c main_arg2) (arg m c main_arg3) (arg m c main_arg4) o

variable (ha : ∀ b n, Apart (far (arg m c main_arg0) (arg m c main_arg1) b n))
include ha

/-- What the first pass leaves at a place is the reference's layer there. -/
theorem layers_apply (b : Fin 2) (o : Fin 128) (n : Fin 8192) :
    ArrayOne.layers (V2 m ρ) c (ix3 b o n) = channelAt m c o (b, n) := by
  have a (r : Ref sig .tc) (h : r ∈ argRefs) : V2 m ρ c r = arg m c r := W2_args m ρ c r h
  show ArrayOne.layerAt (V2 m ρ c main_arg0) (V2 m ρ c main_v1) (V2 m ρ c main_arg3) (V2 m ρ c main_arg2) (V2 m ρ c main_arg4) b n o = _
  rw [a main_arg0 (by decide), a main_arg2 (by decide), a main_arg3 (by decide), a main_arg4 (by decide)]
  exact layer_eq _ _ _ _ _ _ (known_apply m ρ c) ha b n o

/-- The first column of the sums: those of the channels. -/
theorem sum_apply (o : Fin 128) :
    (V10 m ρ c main_v2_1 : S128x2.Idx → EReal) (ix2 o 0) = ∑ i, channelAt m c o i := by
  rw [sums_eq]
  refine (ArrayOne.col₀_after (V2 m ρ) c o 3 _).trans ?_
  refine Eq.trans ?_ (ArrayOne.sum_points fun b n => channelAt m c o (b, n))
  exact Finset.sum_congr rfl fun k _ => Finset.sum_congr rfl fun r _ => layers_apply m ρ c ha _ o _

/-- The second column: those of their squares. -/
theorem square_apply (o : Fin 128) :
    (V10 m ρ c main_v2_1 : S128x2.Idx → EReal) (ix2 o 1) = ∑ i, channelAt m c o i * channelAt m c o i := by
  rw [sums_eq]
  refine (ArrayOne.col₁_after (V2 m ρ) c o 3 _).trans ?_
  refine Eq.trans ?_ (ArrayOne.sum_points fun b n => channelAt m c o (b, n) * channelAt m c o (b, n))
  refine Finset.sum_congr rfl fun k _ => Finset.sum_congr rfl fun r _ => ?_
  rw [layers_apply m ρ c ha]

/-- The clipped layer of the second pass is that of the reference. -/
theorem clipped_apply (b : Fin 2) (n : Fin 8192) (o : Fin 128) :
    ArrayTwo.clippedOf (V10 m ρ c main_v2_0) (V10 m ρ c main_v2_1) (V10 m ρ c main_v7) (V10 m ρ c main_v8) b n o
      = Cert.ReferenceIdeal.Out.clippedOf (arg m c main_arg0) (arg m c main_arg1) (arg m c main_arg2) (arg m c main_arg3)
          (arg m c main_arg4) (arg m c main_arg5) (arg m c main_arg6) b n o := by
  unfold ArrayTwo.clippedOf Cert.ReferenceIdeal.Out.clippedOf
  refine (clipped_eq (channelAt m c o) _ _ _ _ _ (sum_apply m ρ c ha o) (square_apply m ρ c ha o)).trans ?_
  rw [scale_apply m ρ c o, shift_apply m ρ c o, layers_eq m ρ c, layers_apply m ρ c ha]

/-- The result of the second pass at a place is that of the reference. -/
theorem result_apply (b : Fin 2) (o : Fin 128) (n : Fin 8192) :
    ArrayTwo.result (V10 m ρ) c (ix3 b o n)
      = Cert.ReferenceIdeal.Out.outOf (arg m c main_arg0) (arg m c main_arg1) (arg m c main_arg2) (arg m c main_arg3)
          (arg m c main_arg4) (arg m c main_arg5) (arg m c main_arg6) (arg m c main_arg7) (arg m c main_arg8) (arg m c main_arg9)
          (arg m c main_arg10) b o n := by
  show ArrayTwo.outOf _ _ _ _ _ _ _ _ b o n = _
  unfold ArrayTwo.outOf Cert.ReferenceIdeal.Out.outOf
  rw [clipped_apply m ρ c ha b n o, funext fun k => clipped_apply m ρ c ha b n k, last_apply m ρ c o]
  exact gated_padded _ _ _ _ _ _ _ _ _ (fun j => funext fun k => wr_apply m ρ c j k) (br_apply m ρ c) (we_apply m ρ c o) (we_zero m ρ c o)

/-- The result array of the kernel ends holding what the reference computes from the arguments. -/
theorem final_eq : W11 m ρ c (Proc.devRef .tc main_v10)
    = Cert.ReferenceIdeal.Read.val_main_v78 (F := Ideal) (arg m c main_arg0) (arg m c main_arg1) (arg m c main_arg2)
        (arg m c main_arg3) (arg m c main_arg4) (arg m c main_arg5) (arg m c main_arg6) (arg m c main_arg7) (arg m c main_arg8)
        (arg m c main_arg9) (arg m c main_arg10) := by
  refine ((W11_arr m ρ c 8).trans (ArrayTwo.final_result (V10 m ρ) c)).trans ?_
  funext i
  obtain ⟨b, o, n, rfl⟩ : ∃ b o n, i = (ix3 b o n : S2x128x8192.Idx) := ⟨i 0, i 1, i 2, by funext a; fin_cases a <;> rfl⟩
  exact (result_apply m ρ c ha b o n).trans (Cert.ReferenceIdeal.Out.out_apply ..).symm

end

end Cert.KernelIdeal.Equation

end
-- ==== Proof.Algebra.lean ====
/- The two programs give equal results where the four nearest distances of every point are apart. -/
module

public import proofs.«01_k».proof.Defs
public import proofs.«01_k».proof.Proof.Apart
public import proofs.«01_k».proof.Proof.KernelRun
public import proofs.«01_k».proof.Proof.Equation
public import proofs.«01_k».proof.Proof.Gen.ReferenceIdeal.Run

@[expose] public section

set_option maxRecDepth 16384

noncomputable section

namespace Cert.Proof

open Idealize.ShloMosaic Idealize.ShloMosaic.TcCoe Idealize.SL.Sem

/-- Under the precondition the distances of every point are apart. -/
theorem apart_of_pre (m : (ℓ : Loc Cert.KernelIdeal.nD Cert.KernelIdeal.τ Cert.KernelIdeal.sig) → Buf (Elt Ideal) ℓ)
    (h : Cert.Pre_KernelIdeal_nearest_four_apart m) (c : Dev Cert.KernelIdeal.nD) (b : Fin 2) (n : Fin 8192) :
    Apart (Cert.ReferenceIdeal.Hidden.far (Cert.KernelIdeal.Between.arg m c Cert.KernelIdeal.main_arg0)
      (Cert.KernelIdeal.Between.arg m c Cert.KernelIdeal.main_arg1) b n) :=
  Cert.Pre_nearest_four_apart.Points.apart _ _ _ _ _ _ _ _ _ _ _ (h c) b n

/-- An argument array of the reference as launched. -/
abbrev given (m' : (ℓ : Loc Cert.ReferenceIdeal.nD Cert.ReferenceIdeal.τ Cert.ReferenceIdeal.sig) → Buf (Elt Ideal) ℓ)
    (c : Dev Cert.ReferenceIdeal.nD) (a : Ref Cert.ReferenceIdeal.sig .tc) :
    Buf (Elt Ideal) ((c.tc : Thread Cert.ReferenceIdeal.nD Cert.ReferenceIdeal.τ).loc a) :=
  m' ((c.tc : Thread Cert.ReferenceIdeal.nD Cert.ReferenceIdeal.τ).loc a)

/-- Both programs run, end with one result, and leave their arguments as they were. -/
theorem algebraic : Cert.algebraic_KernelIdeal_ReferenceIdeal_pre_nearest_four_apart := by
  intro m g m' g' hp ha
  refine ⟨fun c => Cert.KernelIdeal.Gen.W11 m g c (Proc.devRef .tc Cert.KernelIdeal.main_v10), Cert.KernelIdeal.Run.run m g, ?_⟩
  refine (θ_run Cert.ReferenceIdeal.defs _ _).mono (fun r h c => ⟨?_, (h c).2⟩) (Cert.ReferenceIdeal.Value.run (F := Ideal) m' g')
  obtain ⟨a0, a1, a2, a3, a4, a5, a6, a7, a8, a9, a10⟩ := ha c
  refine ((h c).1.trans (Cert.ReferenceIdeal.Read.val_main_v78_eq _)).trans ?_
  refine Eq.trans ?_ (Cert.KernelIdeal.Equation.final_eq m g c (apart_of_pre m hp c)).symm
  show Cert.ReferenceIdeal.Read.val_main_v78 (F := Ideal) (given m' c Cert.ReferenceIdeal.main_arg0) (given m' c Cert.ReferenceIdeal.main_arg1) (given m' c Cert.ReferenceIdeal.main_arg2)
    (given m' c Cert.ReferenceIdeal.main_arg3) (given m' c Cert.ReferenceIdeal.main_arg4) (given m' c Cert.ReferenceIdeal.main_arg5)
    (given m' c Cert.ReferenceIdeal.main_arg6) (given m' c Cert.ReferenceIdeal.main_arg7) (given m' c Cert.ReferenceIdeal.main_arg8)
    (given m' c Cert.ReferenceIdeal.main_arg9) (given m' c Cert.ReferenceIdeal.main_arg10) = _
  rw [show given m' c Cert.ReferenceIdeal.main_arg0 = _ from a0,
    show given m' c Cert.ReferenceIdeal.main_arg1 = _ from a1, show given m' c Cert.ReferenceIdeal.main_arg2 = _ from a2,
    show given m' c Cert.ReferenceIdeal.main_arg3 = _ from a3, show given m' c Cert.ReferenceIdeal.main_arg4 = _ from a4,
    show given m' c Cert.ReferenceIdeal.main_arg5 = _ from a5, show given m' c Cert.ReferenceIdeal.main_arg6 = _ from a6,
    show given m' c Cert.ReferenceIdeal.main_arg7 = _ from a7, show given m' c Cert.ReferenceIdeal.main_arg8 = _ from a8,
    show given m' c Cert.ReferenceIdeal.main_arg9 = _ from a9, show given m' c Cert.ReferenceIdeal.main_arg10 = _ from a10]

end Cert.Proof

end
-- ==== Proof.lean ====
/- The claims put together. -/
module

public import proofs.«01_k».proof.Defs
public import proofs.«01_k».proof.Proof.Gen.Pre_nearest_four_apart
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The claims: the three programs' frames, the idealized kernel's and the reference's also under the precondition, the
    idealized kernel the kernel's own, and the equality of the results. -/
theorem claim : Cert.Claim := ⟨Cert.Kernel.Gen.facts, Cert.KernelIdeal.Gen.facts, Cert.ReferenceIdeal.Gen.facts,
  Cert.Pre_nearest_four_apart.Gen.facts, fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial, algebraic⟩

end Cert.Proof

end
